-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1024 : Shape := ⟨1, ![1024]⟩
abbrev S100000x128 : Shape := ⟨2, ![100000, 128]⟩
abbrev S128x100000 : Shape := ⟨2, ![128, 100000]⟩
abbrev S100000 : Shape := ⟨1, ![100000]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : IVec S1024 32) (main_arg1 : FVec F S100000x128 .f32) (main_arg2 : FVec F S128x100000 .f32) (main_arg3 : FVec F S100000 .f32) : IVec S_ 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 100000#32
  let main_v2 : IVec S1024 32 := broadcastInDim S1024 ![] bcast_S_S1024 main_c_0
  let main_v3 : IVec S1024 1 := cmpi .slt main_arg0 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024 : Shape := ⟨1, ![1024]⟩
abbrev S100000x128 : Shape := ⟨2, ![100000, 128]⟩
abbrev S128x100000 : Shape := ⟨2, ![128, 100000]⟩
abbrev S100000 : Shape := ⟨1, ![100000]⟩
abbrev S1024x128 : Shape := ⟨2, ![1024, 128]⟩
abbrev S32 : Shape := ⟨1, ![32]⟩
abbrev S32x128 : Shape := ⟨2, ![32, 128]⟩
abbrev S_ : Shape := ⟨0, ![]⟩
abbrev S1x100000 : Shape := ⟨2, ![1, 100000]⟩
abbrev S100000x1024 : Shape := ⟨2, ![100000, 1024]⟩
abbrev S5120x128 : Shape := ⟨2, ![5120, 128]⟩
abbrev S1x5120 : Shape := ⟨2, ![1, 5120]⟩
abbrev S5120x1024 : Shape := ⟨2, ![5120, 1024]⟩
abbrev S128x1024 : Shape := ⟨2, ![128, 1024]⟩
abbrev S5120x1 : Shape := ⟨2, ![5120, 1]⟩
abbrev S1024x100000 : Shape := ⟨2, ![1024, 100000]⟩

abbrev nBuf : Table → Nat
  | .hbm => 9
  | .local .tc .vmem => 8
  | .local .scVector .vmem => 2
  | _ => 0

abbrev bufTy : (tb : Table) → Fin (nBuf tb) → BufTy
  | .hbm, ⟨0, _⟩ => ⟨S1024, .i32⟩
  | .hbm, ⟨1, _⟩ => ⟨S100000x128, .f32⟩
  | .hbm, ⟨2, _⟩ => ⟨S128x100000, .f32⟩
  | .hbm, ⟨3, _⟩ => ⟨S100000, .f32⟩
  | .hbm, ⟨4, _⟩ => ⟨S1024x128, .f32⟩
  | .hbm, ⟨5, _⟩ => ⟨S100000x128, .f32⟩
  | .hbm, ⟨6, _⟩ => ⟨S1x100000, .f32⟩
  | .hbm, ⟨7, _⟩ => ⟨S100000x1024, .f32⟩
  | .hbm, ⟨8, _⟩ => ⟨S1024x100000, .f32⟩
  | .local .tc .vmem, ⟨0, _⟩ => ⟨S5120x128, .f32⟩
  | .local .tc .vmem, ⟨1, _⟩ => ⟨S5120x128, .f32⟩
  | .local .tc .vmem, ⟨2, _⟩ => ⟨S1024x128, .f32⟩
  | .local .tc .vmem, ⟨3, _⟩ => ⟨S1x5120, .f32⟩
  | .local .tc .vmem, ⟨4, _⟩ => ⟨S1x5120, .f32⟩
  | .local .tc .vmem, ⟨5, _⟩ => ⟨S5120x1024, .f32⟩
  | .local .tc .vmem, ⟨6, _⟩ => ⟨S5120x1024, .f32⟩
  | .local .tc .vmem, ⟨7, _⟩ => ⟨S128x1024, .f32⟩
  | .local .scVector .vmem, ⟨0, _⟩ => ⟨S32, .i32⟩
  | .local .scVector .vmem, ⟨1, _⟩ => ⟨S32x128, .f32⟩
  | _, _ => ⟨S1024, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_arg1_scv : Ref sig .scVector := ⟨.hbm, 1, rfl⟩
abbrev main_arg0_scv : Ref sig .scVector := ⟨.hbm, 0, rfl⟩
abbrev main_v0_scv : Ref sig .scVector := ⟨.hbm, 4, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc1_stg3_0 : Ref sig .tc := ⟨.vmem, 5, rfl⟩
abbrev cc1_stg3_1 : Ref sig .tc := ⟨.vmem, 6, rfl⟩
abbrev cc1_scratch0 : Ref sig .tc := ⟨.vmem, 7, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc1_sem3_0 : DmaSem sig := 8
abbrev cc1_sem3_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_3_r1 : BitVec 32 := 0#32
  ![v2.toNat, 0]
abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5120x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x5120 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5120x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024 : Shape := ⟨1, ![1024]⟩
abbrev S100000x128 : Shape := ⟨2, ![100000, 128]⟩
abbrev S128x100000 : Shape := ⟨2, ![128, 100000]⟩
abbrev S100000 : Shape := ⟨1, ![100000]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x128 : Shape := ⟨2, ![1024, 128]⟩
abbrev S1024x100000 : Shape := ⟨2, ![1024, 100000]⟩
abbrev S1x100000 : Shape := ⟨2, ![1, 100000]⟩

abbrev nBuf : Space → Nat
  | .hbm => 31
  | .vmem => 0
  | .smem => 0
  | _ => 0

abbrev bufTy : (tb : Table) → Fin (tcTables nBuf tb) → BufTy
  | .hbm, ⟨0, _⟩ => ⟨S1024, .i32⟩
  | .hbm, ⟨1, _⟩ => ⟨S100000x128, .f32⟩
  | .hbm, ⟨2, _⟩ => ⟨S128x100000, .f32⟩
  | .hbm, ⟨3, _⟩ => ⟨S100000, .f32⟩
  | .hbm, ⟨4, _⟩ => ⟨S_, .i32⟩
  | .hbm, ⟨5, _⟩ => ⟨S1024, .i32⟩
  | .hbm, ⟨6, _⟩ => ⟨S1024, .i1⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S1, .i32⟩
  | .hbm, ⟨13, _⟩ => ⟨S_, .i32⟩
  | .hbm, ⟨14, _⟩ => ⟨S1024x1, .i32⟩
  | .hbm, ⟨15, _⟩ => ⟨S1024x1, .i1⟩
  | .hbm, ⟨16, _⟩ => ⟨S1x1, .i32⟩
  | .hbm, ⟨17, _⟩ => ⟨S1024x1, .i32⟩
  | .hbm, ⟨18, _⟩ => ⟨S1024x1, .i1⟩
  | .hbm, ⟨19, _⟩ => ⟨S1024x1, .i1⟩
  | .hbm, ⟨20, _⟩ => ⟨S_, .i1⟩
  | .hbm, ⟨21, _⟩ => ⟨S1024, .i1⟩
  | .hbm, ⟨22, _⟩ => ⟨S1024x128, .f32⟩
  | .hbm, ⟨23, _⟩ => ⟨S1024x128, .i1⟩
  | .hbm, ⟨24, _⟩ => ⟨S_, .f32⟩
  | .hbm, ⟨25, _⟩ => ⟨S1024x128, .f32⟩
  | .hbm, ⟨26, _⟩ => ⟨S1024x128, .f32⟩
  | .hbm, ⟨27, _⟩ => ⟨S1024x100000, .f32⟩
  | .hbm, ⟨28, _⟩ => ⟨S1x100000, .f32⟩
  | .hbm, ⟨29, _⟩ => ⟨S1024x100000, .f32⟩
  | .hbm, ⟨30, _⟩ => ⟨S1024x100000, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩

abbrev nD : Nat := 1
abbrev τ : Topo := Topo.v7x

variable {F : FTy → Type} [FloatOps F]
-- ==== Proof.Setup.lean ====
/-
  What every later file of this certificate shares: the program as the launch theorem for SparseCore programs reads
  it, the ghost state the proof runs on, the names of the arrays, and the mathematical value of the first kernel (the
  embedding rows the tiles gather). Everything is stated over any float instance, so that one proof of the run serves
  both the machine's floats and the extended reals.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Pointwise.Index
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.Sem
open Idealize.ShloMosaic.Rounds

variable {F : FTy → Type}

/-! ## The program as the launch theorem sees it -/

/-- The labels of the program below the SparseCore launch: the kernel bodies' and the one pipeline's. -/
abbrev ΛP : Labels := Pipeline.Sig Λ₀ (Fin 1) fun p => (pcfgs (F := F) p).Adm
/-- The program's one SparseCore call. -/
abbrev K : SparseCore.Cfg τ sig (ΛP (F := F)) 1 := sc (F := F)
/-- The body table the SparseCore launch extends. -/
abbrev D [FloatOps F] : Defs nD τ sig (Elt F) (ΛP (F := F)) := Pipeline.defs pcfgs defs₀
/-- No body recurs: no variant is needed. -/
abbrev 𝒱₀ : Variants := Variants.none
/-- The same, under the pipeline's labels. -/
abbrev 𝒱 : Variants := 𝒱₀.lift
/-- The bound the tiles' tasks run at. -/
abbrev v₀ : 𝒱.V := Sum.inl none

/-- What the launch theorem asks of the four launch semaphores and of the SparseCores' shared memory (there is none). -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The ghost state -/

/-- The handshakes' rounds. -/
abbrev UH : Type := URounds (GSem nD τ sig) ℕ
/-- The handshakes' rounds, beside the pipeline's and the counters of the tiles' transfers. -/
abbrev UU : Type := UH × (UR sig nD τ × Counters)

/-- The handshakes' component. -/
abbrev EH : Emb UH (MT nD τ sig (HIx 1) (Elt F) ℕ UU ℕ) := embL
/-- The pipeline's component. -/
def EP : Emb (UR sig nD τ) (MT nD τ sig (HIx 1) (Elt F) ℕ UU ℕ) :=
  (Emb.inl : Emb (UR sig nD τ) (UR sig nD τ × Counters)).trans embR

instance EP_landsIn : (EP (F := F)).LandsIn (upEmb : UEmb _ (MT nD τ sig (HIx 1) (Elt F) ℕ UU ℕ)) := by
  unfold EP; infer_instance

/-! ## The arrays -/

/-- The word list, the table, the projection, the bias; the gathered rows; the program's intermediate arrays and result. -/
abbrev iLoc (d : Dev nD) : Loc nD τ sig := (SparseCore.T d).loc main_arg0
abbrev eLoc (d : Dev nD) : Loc nD τ sig := (SparseCore.T d).loc main_arg1
abbrev wLoc (d : Dev nD) : Loc nD τ sig := (SparseCore.T d).loc main_arg2
abbrev bLoc (d : Dev nD) : Loc nD τ sig := (SparseCore.T d).loc main_arg3
abbrev gLoc (d : Dev nD) : Loc nD τ sig := (SparseCore.T d).loc main_v0
abbrev wtLoc (d : Dev nD) : Loc nD τ sig := (SparseCore.T d).loc main_v1
abbrev brLoc (d : Dev nD) : Loc nD τ sig := (SparseCore.T d).loc main_v2
abbrev otLoc (d : Dev nD) : Loc nD τ sig := (SparseCore.T d).loc main_v3
abbrev oLoc (d : Dev nD) : Loc nD τ sig := (SparseCore.T d).loc main_v4

/-! ## The embedding rows -/

/-- The row of the table a word names (its value, when that is below 100000). -/
def rowOf (v : BitVec 32) : Fin 100000 := ⟨v.toNat % 100000, Nat.mod_lt _ (by decide)⟩

/-- A word below 100000 names the row of its own value. -/
theorem rowOf_val {v : BitVec 32} (h : v.toNat < 100000) : (rowOf v).val = v.toNat := Nat.mod_eq_of_lt h

/-- The rows a list of 1024 words names, one below the other. -/
def lookup {α : Type} (idx : S1024.Idx → BitVec 32) (E : S100000x128.Idx → α) : S1024x128.Idx → α :=
  fun j => E (ix2 (rowOf (idx (ix1 (n0 := 1024) (j 0)))) (j 1))

variable (m : (ℓ : Loc nD τ sig) → Buf (Elt F) ℓ)

/-- The gathered rows on device `d`, of the arguments in the launch memory. -/
def emb (d : Dev nD) : Buf (Elt F) (gLoc d) := lookup (m (iLoc d)) (m (eLoc d))

/-- What the proof asks of the launch memory: every word of the list is below 100000, a row of the table. -/
def PreOK : Prop := ∀ (d : Dev nD) (j : S1024.Idx), (m (iLoc d) j).toNat < 100000

end Cert.Proof.Run

end
-- ==== Proof.Tile.lean ====
/-
  One task of the SparseCore call: tile `(c, i)` fetches its 32 words of the list, gathers the 32 table rows they name
  by the indirect stream, and writes them out as its 32 rows of the gathered array. It is handed those 32 words, a
  share of the table and its 32 rows of the output; it gives them back, the output rows at the rows of the table the
  words name.
-/
module

public import proofs.«01_k».proof.Proof.Setup

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The pieces a task is handed -/

theorem wordsDvd : 32 ∣ S1024.size 0 := ⟨32, rfl⟩
theorem rowsDvd : 32 ∣ S1024x128.size 0 := ⟨32, rfl⟩

/-- The `w`-th block of 32 words of the list, and of 32 rows of the gathered array. -/
abbrev wordBlk (w : Fin 32) : Rect S1024 := Rect.part (s := S1024) (a₀ := 0) wordsDvd w
abbrev rowBlk (w : Fin 32) : Rect S1024x128 := Rect.part (s := S1024x128) (a₀ := 0) rowsDvd w

/-- The `w`-th of 32 shares of the table. -/
abbrev tShare (w : Fin 32) : PosShare TreeShare := pieceOf fullShare 32 (by decide) w

/-- A block of the word list, a share of the table, and a block of the gathered array at contents `f`. -/
abbrev wordPts (d : Dev nD) (w : Fin 32) : sProp 𝕄 := iLoc d ↦[(wordBlk w).set]{fullShare} m (iLoc d)
abbrev tablePts (d : Dev nD) (w : Fin 32) : sProp 𝕄 := eLoc d ↦{tShare w} m (eLoc d)
abbrev rowPts (d : Dev nD) (w : Fin 32) (f : Buf (Elt F) (gLoc d)) : sProp 𝕄 := gLoc d ↦[(rowBlk w).set]{fullShare} f

/-- What a task is handed, -/
abbrev goPts (d : Dev nD) (w : Fin 32) : sProp 𝕄 := iprop(wordPts m d w ∗ tablePts m d w ∗ rowPts d w (m (gLoc d)))
/-- and what it gives back: its rows gathered. -/
abbrev tdPts (d : Dev nD) (w : Fin 32) : sProp 𝕄 := iprop(wordPts m d w ∗ tablePts m d w ∗ rowPts d w (emb m d))

/-! ## The task's views -/

section Tile

variable (d : Dev nD) (L : grid0.Coords)

/-- The SparseCore and the subcore of a task, and its number: tile `(c, i)` has number `2 i + c`. -/
abbrev coreOf (L : grid0.Coords) : Fin τ.nSC := (L 0).castLE hcore0
abbrev subOf (L : grid0.Coords) : Fin τ.nSub := (L 1).castLE hsub0
theorem taskNo_lt (L : grid0.Coords) : 2 * (L 1).val + (L 0).val < 32 := by
  have h0 : (L 0).val < 2 := (L 0).isLt
  have h1 : (L 1).val < 16 := (L 1).isLt
  omega
abbrev taskNo (L : grid0.Coords) : Fin 32 := ⟨2 * (L 1).val + (L 0).val, taskNo_lt L⟩

/-- The rectangles the task addresses. -/
abbrev wordRect (L : grid0.Coords) : Rect S1024 := Rect.unit (s := S1024) (k0_off1 L) S32.size (k0_off1_inb L)
abbrev rowRect (L : grid0.Coords) : Rect S1024x128 := Rect.unit (s := S1024x128) (k0_off2 L) S32x128.size (k0_off2_inb L)
/-- The task's words, its rows of the gathered array, and all of the table, as it addresses them. -/
abbrev wordsV (L : grid0.Coords) : Memref sig .scVector .hbm S32 .i32 :=
  (Memref.whole main_arg0_scv : Memref sig .scVector .hbm S1024 .i32).slice (wordRect L) (fun _ => rfl)
abbrev rowsV (L : grid0.Coords) : Memref sig .scVector .hbm S32x128 .f32 :=
  (Memref.whole main_v0_scv : Memref sig .scVector .hbm S1024x128 .f32).slice (rowRect L) (fun _ => rfl)
abbrev tableV : Memref sig .scVector .hbm S100000x128 .f32 :=
  (Memref.whole main_arg1_scv : Memref sig .scVector .hbm S100000x128 .f32).slice
    (Rect.unit (s := S100000x128) ![0, 0] S100000x128.size inb_S100000x128_S100000x128_0_0) (fun _ => rfl)
/-- The tile's scratch: the words it fetched, and the rows it gathered. -/
abbrev idxV : Memref sig .scVector .vmem S32 .i32 := Memref.whole cc0_scratch0
abbrev bufV : Memref sig .scVector .vmem S32x128 .f32 := Memref.whole cc0_scratch1

/-- The rectangles the task addresses are the blocks of its number. -/
theorem wordRect_eq : wordRect L = wordBlk (taskNo L) := by
  unfold wordRect wordBlk Rect.part Rect.block
  congr 1 <;> funext a
  · rw [k0_off1_eq]
    match a with
    | 0 => simp [Shape.partIx, Shape.partSize]; omega
  · match a with
    | 0 => simp [Shape.partSize]
theorem rowRect_eq : rowRect L = rowBlk (taskNo L) := by
  unfold rowRect rowBlk Rect.part Rect.block
  congr 1 <;> funext a
  · rw [k0_off2_eq]
    match a with
    | 0 => simp [Shape.partIx, Shape.partSize]; omega
    | 1 => simp [Shape.partIx, Shape.partSize]
  · match a with
    | 0 => simp [Shape.partSize]
    | 1 => simp [Shape.partSize]

theorem set_wordsV : (wordsV L).view.set = (wordBlk (taskNo L)).set := by
  show ((View.whole (main_arg0_scv : Ref sig .scVector)).slice (wordRect L)).set = _
  rw [View.set_slice, wordRect_eq]; exact Finset.map_refl
theorem set_rowsV : (rowsV L).view.set = (rowBlk (taskNo L)).set := by
  show ((View.whole (main_v0_scv : Ref sig .scVector)).slice (rowRect L)).set = _
  rw [View.set_slice, rowRect_eq]; exact Finset.map_refl

/-- The task's pieces, spelled on its views. -/
theorem pts_wordsV (f : Buf (Elt F) (iLoc d)) :
    ((wordsV L).view.loc (V d (coreOf L) (subOf L)) ↦[(wordsV L).view.set]{fullShare} f : sProp 𝕄)
      = iLoc d ↦[(wordBlk (taskNo L)).set]{fullShare} f := by rw [set_wordsV]
theorem pts_rowsV (f : Buf (Elt F) (gLoc d)) :
    ((rowsV L).view.loc (V d (coreOf L) (subOf L)) ↦[(rowsV L).view.set]{fullShare} f : sProp 𝕄)
      = gLoc d ↦[(rowBlk (taskNo L)).set]{fullShare} f := by rw [set_rowsV]
theorem pts_table (q : PosShare TreeShare) (f : Buf (Elt F) (eLoc d)) :
    ((Memref.whole main_arg1_scv : Memref sig .scVector .hbm S100000x128 .f32).view.loc (V d (coreOf L) (subOf L)) ↦{q} f : sProp 𝕄)
      = eLoc d ↦{q} f := rfl
theorem pts_idxV (f : Buf (Elt F) ((V d (coreOf L) (subOf L)).loc cc0_scratch0)) :
    ((idxV).view.loc (V d (coreOf L) (subOf L)) ↦{fullShare} f : sProp 𝕄) = (V d (coreOf L) (subOf L)).loc cc0_scratch0 ↦{fullShare} f := rfl
theorem pts_bufV (f : Buf (Elt F) ((V d (coreOf L) (subOf L)).loc cc0_scratch1)) :
    ((bufV).view.loc (V d (coreOf L) (subOf L)) ↦{fullShare} f : sProp 𝕄) = (V d (coreOf L) (subOf L)).loc cc0_scratch1 ↦{fullShare} f := rfl

/-! ## The tile's own storage -/

/-- The three semaphores of a tile: of its gather, of its fetch, of its write-out. -/
abbrev gatherCell (d : Dev nD) (c : Fin τ.nSC) (i : Fin τ.nSub) : GSem nD τ sig := (V d c i, .dma cc0_scratch2.sem)
abbrev fetchCell (d : Dev nD) (c : Fin τ.nSC) (i : Fin τ.nSub) : GSem nD τ sig := (V d c i, .dma cc0_scoped0.sem)
abbrev outCell (d : Dev nD) (c : Fin τ.nSC) (i : Fin τ.nSub) : GSem nD τ sig := (V d c i, .dma cc0_scoped1.sem)

/-- The tile's semaphores at zero are those three at zero, and the rest. -/
theorem ownSems0_tile :
    (ownSems0 (V d (coreOf L) (subOf L)) : sProp 𝕄)
      = iprop(semVal (gatherCell d (coreOf L) (subOf L)) 0 ∗ semVal (fetchCell d (coreOf L) (subOf L)) 0 ∗ semVal (outCell d (coreOf L) (subOf L)) 0
          ∗ bigSep ((((ownCells (V d (coreOf L) (subOf L))).erase (gatherCell d (coreOf L) (subOf L))).erase
              (fetchCell d (coreOf L) (subOf L))).erase (outCell d (coreOf L) (subOf L))) fun g => semVal g 0) := by
  unfold SparseCore.Cfg.ownSems0
  have hg : gatherCell d (coreOf L) (subOf L) ∈ ownCells (sig := sig) (V d (coreOf L) (subOf L)) :=
    mem_ownCells.mpr ⟨rfl, by show (SemLoc.dma cc0_scratch2.sem : SemLoc sig).isScoped .scVector = true; decide⟩
  have hf : fetchCell d (coreOf L) (subOf L) ∈ ownCells (sig := sig) (V d (coreOf L) (subOf L)) :=
    mem_ownCells.mpr ⟨rfl, by show (SemLoc.dma cc0_scoped0.sem : SemLoc sig).isScoped .scVector = true; decide⟩
  have ho : outCell d (coreOf L) (subOf L) ∈ ownCells (sig := sig) (V d (coreOf L) (subOf L)) :=
    mem_ownCells.mpr ⟨rfl, by show (SemLoc.dma cc0_scoped1.sem : SemLoc sig).isScoped .scVector = true; decide⟩
  have hfg : fetchCell d (coreOf L) (subOf L) ≠ gatherCell d (coreOf L) (subOf L) := by simp [gatherCell, fetchCell]; decide
  have hof : outCell d (coreOf L) (subOf L) ≠ fetchCell d (coreOf L) (subOf L) := by simp [outCell, fetchCell]; decide
  have hog : outCell d (coreOf L) (subOf L) ≠ gatherCell d (coreOf L) (subOf L) := by simp [outCell, gatherCell]; decide
  rw [SparseCore.bigSep_erase' hg, SparseCore.bigSep_erase' (Finset.mem_erase.mpr ⟨hfg, hf⟩),
    SparseCore.bigSep_erase' (Finset.mem_erase.mpr ⟨hof, Finset.mem_erase.mpr ⟨hog, ho⟩⟩)]

/-- The tile's buffers are its two scratch buffers, each at some contents, and the rest. -/
theorem ownBufs_tile :
    (ownBufs (V d (coreOf L) (subOf L)) : sProp 𝕄)
      = iprop((∃ f, (V d (coreOf L) (subOf L)).loc cc0_scratch0 ↦{fullShare} f) ∗ (∃ f, (V d (coreOf L) (subOf L)).loc cc0_scratch1 ↦{fullShare} f)
          ∗ bigSep (((ownRefs (τ := τ) (.scVector (coreOf L) (subOf L))).erase ((Proc.scVector (coreOf L) (subOf L)).devRef cc0_scratch0)).erase
              ((Proc.scVector (coreOf L) (subOf L)).devRef cc0_scratch1))
              fun b => iprop(∃ f, ((d, b) : Loc nD τ sig) ↦{fullShare} f)) := by
  unfold SparseCore.Cfg.ownBufs
  have h0 := SparseCore.Cfg.mem_ownRefs_of_owner (p := Proc.scVector (coreOf L) (subOf L))
    (b := (Proc.scVector (coreOf L) (subOf L)).devRef (cc0_scratch0 : Ref sig .scVector)) rfl
  have h1 := SparseCore.Cfg.mem_ownRefs_of_owner (p := Proc.scVector (coreOf L) (subOf L))
    (b := (Proc.scVector (coreOf L) (subOf L)).devRef (cc0_scratch1 : Ref sig .scVector)) rfl
  refine (SparseCore.bigSep_erase' h0).trans ?_
  rw [SparseCore.bigSep_erase' (Finset.mem_erase.mpr
    ⟨fun e => absurd (Proc.devRef_injective _ e) (show (cc0_scratch1 : Ref sig .scVector) ≠ cc0_scratch0 by decide), h1⟩)]

/-! ## The values the task moves -/

/-- Element `x` of the task's words is the list's element `x` places after the block's first. -/
theorem wordsV_emb (x : S32.Idx) : (((wordsV L).view.emb x : S1024.Idx) 0).val = 64 * (L 1).val + 32 * (L 0).val + (x 0).val := by
  show ((wordRect L).emb x 0).val = _
  rw [Rect.emb_apply]
  show k0_off1 L 0 + 1 * (x 0).val = _
  rw [k0_off1_eq]; simp

/-- Element `(r, k)` of the task's rows is the gathered array's element `(32 w + r, k)`. -/
theorem rowsV_emb (x : S32x128.Idx) :
    ((rowsV L).view.emb x : S1024x128.Idx)
      = ix2 (n0 := 1024) (n1 := 128) ⟨64 * (L 1).val + 32 * (L 0).val + (x 0).val, by
          have := taskNo_lt L; have h : (x 0).val < 32 := (x 0).isLt; omega⟩ (x 1) := by
  show (rowRect L).emb x = _
  funext a
  apply Fin.ext
  rw [Rect.emb_apply]
  show k0_off2 L a + 1 * (x a).val = _
  rw [k0_off2_eq]
  match a with
  | 0 => simp
  | 1 => simp

/-- The words the fetch lands in the tile's list, read back. -/
theorem words_read (f : Buf (Elt F) (iLoc d)) (x : S32.Idx) : (wordsV L).view.read (Elt F) f x = f ((wordsV L).view.emb x) :=
  (View.read_apply _ _).trans (cast_eq _ _)

/-- Every word of the fetched list names a row of the table. -/
theorem words_lt (hpre : PreOK m) (fs : Buf (Elt F) ((V d (coreOf L) (subOf L)).loc cc0_scratch0)) (pay : S32.Idx → Elt F .i32)
    (hpay : pay = (wordsV L).view.read (Elt F) (m (iLoc d))) :
    ∀ x, ((idxV).view.read (Elt F) (View.write (Elt F) (idxV).view fs pay Finset.univ) x).toNat
      < S100000x128.size gathers_S100000x128_S32x128.axis := by
  subst hpay; intro x
  rw [View.write_whole_univ]
  simp only [Memref.view_whole, View.read_whole]
  rw [words_read]
  exact hpre d _

/-- The place in the list of the task's `k`-th word. -/
abbrev wordAt (k : Fin 32) : Fin 1024 := ⟨64 * (L 1).val + 32 * (L 0).val + k.val, by have := taskNo_lt L; omega⟩

/-- The `k`-th entry of the fetched list is the task's `k`-th word. -/
theorem list_word (fs : Buf (Elt F) ((V d (coreOf L) (subOf L)).loc cc0_scratch0)) (pay : S32.Idx → Elt F .i32)
    (hpay : pay = (wordsV L).view.read (Elt F) (m (iLoc d))) (hn : S32.numel = 32) (k : Fin 32) :
    (idxV).view.read (Elt F) (View.write (Elt F) (idxV).view fs pay Finset.univ) (S32.rowMajor.symm (k.cast hn.symm))
      = m (iLoc d) (ix1 (wordAt L k)) := by
  subst hpay
  rw [View.write_whole_univ]
  simp only [Memref.view_whole, View.read_whole]
  rw [words_read]
  refine congrArg (m (iLoc d)) ?_
  rw [eq_ix1 ((wordsV L).view.emb _ : S1024.Idx)]
  refine congrArg ix1 (Fin.ext ?_)
  refine (wordsV_emb L _).trans (congrArg (64 * (L 1).val + 32 * (L 0).val + ·) ?_)
  rw [← Shape.rowMajor_val_one (d := ![32]) (S32.rowMajor.symm (Fin.cast hn.symm k)), Equiv.apply_symm_apply]
  rfl

/-- The embedding row the task owes at `x`. -/
theorem emb_rowsV (x : S32x128.Idx) :
    emb m d ((rowsV L).view.emb x) = m (eLoc d) (ix2 (rowOf (m (iLoc d) (ix1 (wordAt L (x 0))))) (x 1)) := by
  rw [rowsV_emb]; rfl

/-- The element of the table the gather reads for `x`, as the tile addresses the table, when the list names row `r`. -/
theorem table_idx (r : Fin (S32x128.size gathers_S100000x128_S32x128.axis') → Fin (S100000x128.size gathers_S100000x128_S32x128.axis))
    (x : S32x128.Idx) :
    ((tableV).view.emb (gathers_S100000x128_S32x128.idx r x) : S100000x128.Idx) = ix2 (r (x 0)) (x 1) := by
  show (Rect.unit (s := S100000x128) ![0, 0] S100000x128.size inb_S100000x128_S100000x128_0_0).emb _ = _
  funext a
  apply Fin.ext
  rw [Rect.emb_apply]
  show (![0, 0] : Fin 2 → ℕ) a + 1 * _ = _
  match a with
  | 0 =>
    show 0 + 1 * (gathers_S100000x128_S32x128.idx r x gathers_S100000x128_S32x128.axis).val = (r (x 0)).val
    rw [Nat.zero_add, Nat.one_mul]
    exact congrArg Fin.val (Shape.Gathers.idx_axis gathers_S100000x128_S32x128 r x)
  | 1 =>
    show 0 + 1 * (gathers_S100000x128_S32x128.idx r x (1 : Fin 2)).val = (x 1).val
    rw [Nat.zero_add, Nat.one_mul]
    exact Shape.Gathers.idx_of_ne gathers_S100000x128_S32x128 r x 1 (by decide)

/-- What the gather delivers to the tile's buffer, at `x`, is the embedding row the task owes there. -/
theorem gather_value (hpre : PreOK m) (fs : Buf (Elt F) ((V d (coreOf L) (subOf L)).loc cc0_scratch0)) (pay : S32.Idx → Elt F .i32)
    (hpay : pay = (wordsV L).view.read (Elt F) (m (iLoc d))) (hn : S32.numel = S32x128.size gathers_S100000x128_S32x128.axis')
    (hin : ∀ x, ((idxV).view.read (Elt F) (View.write (Elt F) (idxV).view fs pay Finset.univ) x).toNat
      < S100000x128.size gathers_S100000x128_S32x128.axis) (x : S32x128.Idx) :
    SparseCore.gatherPayload (e := .f32) gathers_S100000x128_S32x128 ((tableV).view.read (Elt F) (m (eLoc d)))
        (SparseCore.rows ((idxV).view.read (Elt F) (View.write (Elt F) (idxV).view fs pay Finset.univ)) hn hin) x
      = emb m d ((rowsV L).view.emb x) := by
  unfold SparseCore.gatherPayload
  rw [show ∀ j, (tableV).view.read (Elt F) (m (eLoc d)) j = m (eLoc d) ((tableV).view.emb j) from
    fun j => (View.read_apply _ _).trans (cast_eq _ _), emb_rowsV]
  refine congrArg (m (eLoc d)) ((table_idx _ x).trans (congrArg (fun r : Fin 100000 => ix2 r (x 1)) (Fin.ext ?_)))
  have e := congrArg (fun v : BitVec 32 => v.toNat) (list_word m d L fs pay hpay hn (x 0))
  exact Eq.trans e (rowOf_val (hpre d _)).symm

/-- The task's rows of the gathered array, written with what the gather delivered, are at the embedding rows. -/
theorem rows_value (f : Buf (Elt F) (gLoc d)) (pay : S32x128.Idx → Elt F .f32) (h : ∀ x, pay x = emb m d ((rowsV L).view.emb x)) :
    ((rowsV L).view.loc (V d (coreOf L) (subOf L)) ↦[(rowsV L).view.set]{fullShare}
        (rowsV L).view.writes (Elt F) f [⟨Rect.whole S32x128, pay⟩] : sProp 𝕄) = rowPts d (taskNo L) (emb m d) := by
  refine (pts_rowsV d L _).trans (pointsTo_congr fun i hi => ?_)
  rw [← set_rowsV] at hi
  obtain ⟨x, -, rfl⟩ := Finset.mem_map.mp hi
  rw [View.writes_singleton]
  have e : (rowsV L).view.emb x = ((rowsV L).view.slice (Rect.whole S32x128)).emb x := by
    rw [View.emb_slice]; exact congrArg (rowsV L).view.emb (Rect.emb_whole_apply S32x128 x).symm
  rw [← h x, e, View.write_emb_of_mem _ _ (Finset.mem_univ x)]
  exact cast_eq _ _

/-! ## The task -/

set_option maxHeartbeats 4000000 in
/-- The task on tile `(L 0, L 1)` of device `d`: the fetch of its words and the wait for it, the indirect gather and
    the wait for it, the write-out and the wait for it. -/
theorem task_run (hF : (K (F := F)).Facts) [FloatOps F] (hpre : PreOK m) (O : CellTallies nD τ sig (HIx 1)) (W : Waits sig (HIx 1))
    (hO : ∀ g, O g none = 0) :
    iprop(levAts (K (F := F)).L (K (F := F)).lev ∗ emp ∗ goPts m d (taskNo L)
        ∗ scopedBufs (V d (coreOf L) (subOf L)) ∗ scopedSems0 (V d (coreOf L) (subOf L)) ∗ owes (V d (coreOf L) (subOf L)) O W)
      ⊢ wp frame (wpE (defs₀ (F := F)) 𝒱₀ (V d (coreOf L) (subOf L)) none) Set.univ
          (cc0__sc_gather_body L (Memref.whole main_arg1_scv) (Memref.isWhole_whole _) (Memref.whole main_arg0_scv) (Memref.isWhole_whole _)
            (Memref.whole main_v0_scv) (Memref.isWhole_whole _) (Memref.whole cc0_scratch0) (Memref.isWhole_whole _)
            (Memref.whole cc0_scratch1) (Memref.isWhole_whole _) cc0_scratch2 cc0_scoped0 cc0_scoped1)
          fun _ => iprop(tdPts m d (taskNo L)
            ∗ scopedBufs (V d (coreOf L) (subOf L)) ∗ scopedSems0 (V d (coreOf L) (subOf L))
            ∗ ∃ W', ⌜∀ p ∈ W', p ∈ W ∨ p.2 = none⌝ ∗ owes (V d (coreOf L) (subOf L)) O W') := by
  simp only [cc0__sc_gather_body_eq_skeleton]; unfold cc0__sc_gather_body_skel
  rw [(K (F := F)).scopedBufs_V hF d (coreOf L) (subOf L), SparseCore.Cfg.scopedSems0_V (Val := Elt F) d (coreOf L) (subOf L),
    ownSems0_tile, ownBufs_tile]
  iintro ⟨#Hlv, -, ⟨Hi, Hx, Ho⟩, ⟨⟨%fs, Hs⟩, ⟨%fr, Hr⟩, Hbufs⟩, ⟨HsemG, HsemF, HsemO, Hsems⟩, HO⟩
  ihave Hmw := (show levAts (K (F := F)).L (K (F := F)).lev ⊢ Transfers.MayWaits (V d (coreOf L) (subOf L)) (default : HIx 1) O from
    (K (F := F)).mayWaits_none (thr := V d (coreOf L) (subOf L)) hO) $$ Hlv
  ihave Hi' := (Entails.of_eq (pts_wordsV (F := F) d L _).symm) $$ Hi
  ihave Ho' := (Entails.of_eq (pts_rowsV (F := F) d L _).symm) $$ Ho
  ihave Hx' := (Entails.of_eq (pts_table (F := F) d L _ _).symm) $$ Hx
  ihave Hs' := (Entails.of_eq (pts_idxV (F := F) d L _).symm) $$ Hs
  ihave Hr' := (Entails.of_eq (pts_bufV (F := F) d L _).symm) $$ Hr
  sl_exec
  -- the gather: the tile hands in a share of the table, its buffer, its list and its semaphore at zero
  ihave Hxs := (pointsTo_split_subset (q := tShare (taskNo L)) (f := m (eLoc d)) (S := Finset.univ) (Finset.subset_univ (tableV).view.set)).1 $$ Hx'
  icases Hxs with ⟨Hxs, Hxr⟩
  have hrs : (bufV).view.set = Finset.univ := View.set_whole _
  have hss : (idxV).view.set = Finset.univ := View.set_whole _
  ihave Hr'' := (Entails.of_eq (show ((bufV).view.loc (V d (coreOf L) (subOf L)) ↦{fullShare} fr : sProp 𝕄)
      = (bufV).view.loc (V d (coreOf L) (subOf L)) ↦[(bufV).view.set]{fullShare} fr by rw [hrs])) $$ Hr'
  ihave Hs'' := (Entails.of_eq (show ((idxV).view.loc (V d (coreOf L) (subOf L)) ↦{fullShare} View.write (Elt F) (idxV).view fs (task_run.sl.dma0 m d L) Finset.univ : sProp 𝕄)
      = (idxV).view.loc (V d (coreOf L) (subOf L)) ↦[(idxV).view.set]{fullShare} View.write (Elt F) (idxV).view fs (task_run.sl.dma0 m d L) Finset.univ
      by rw [hss])) $$ Hs'
  have hN : ∀ h : S100000x128.Gathers 0 S32x128, ∑ j, ((bufV).slice (S32x128.rowRect h.axis' j) (S32x128.stride_rowRect h.axis' j)).view.dmaCredit
      = (bufV).view.dmaCredit := by decide
  have hin := words_lt m d L hpre fs (task_run.sl.dma0 m d L) rfl
  iapply (SparseCore.wp_indirectGatherLocal countersEmb 𝒱₀ (V d (coreOf L) (subOf L)) none (hg := gathers_S100000x128_S32x128) (default : HIx 1)
      (bufV).view.dmaCredit (hN _) (by decide) hin) $$ [Hxs Hr'' Hs'' HsemG]
  · isplitl [Hxs]; · iexact Hxs
    isplitl [Hr'']; · iexact Hr''
    isplitl [Hs'']; · iexact Hs''
    iexact HsemG
  iintro Hfl
  sl_exec
  -- the wait for it
  iapply (Transfers.wp_waitLocalO countersEmb 𝒱₀ (V d (coreOf L) (subOf L)) none (default : HIx 1) (rfl : (bufV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, HsemG, HO⟩
  ihave Hx' := (pointsTo_split_subset (q := tShare (taskNo L)) (f := m (eLoc d)) (S := Finset.univ) (Finset.subset_univ (tableV).view.set)).2 $$ [Hxs Hxr]
  · isplitl [Hxs] <;> iassumption
  ihave Hr3 := (Entails.of_eq (show ((bufV).view.loc (V d (coreOf L) (subOf L)) ↦[(bufV).view.set]{fullShare} _ : sProp 𝕄)
      = (bufV).view.loc (V d (coreOf L) (subOf L)) ↦{fullShare} _ by rw [hrs])) $$ Hr'
  ihave Hs3 := (Entails.of_eq (show ((idxV).view.loc (V d (coreOf L) (subOf L)) ↦[(idxV).view.set]{fullShare} _ : sProp 𝕄)
      = (idxV).view.loc (V d (coreOf L) (subOf L)) ↦{fullShare} _ by rw [hss])) $$ Hs'
  sl_exec
  sl_step
  isplitl [Hi' Hx' Ho']
  · isplitl [Hi']; · iapply (Entails.of_eq (pts_wordsV (F := F) d L _)); iexact Hi'
    isplitl [Hx']; · iexact Hx'
    have hv : ∀ x, task_run.sl.dma0_1 m d L fs fr hin x = emb m d ((rowsV L).view.emb x) := by
      intro x
      have h := gather_value m d L hpre fs (task_run.sl.dma0 m d L) rfl rfl hin x
      unfold task_run.sl.dma0_1
      rw [View.write_whole_univ]
      exact h
    iapply (Entails.of_eq (rows_value m d L (m (gLoc d)) (task_run.sl.dma0_1 m d L fs fr hin) hv))
    iexact Ho'
  isplitl [Hs3 Hr3 Hbufs]
  · isplitl [Hs3]; · iexists _; iexact Hs3
    isplitl [Hr3]; · iexists _; iexact Hr3
    iexact Hbufs
  isplitl [HsemG HsemF HsemO Hsems]
  · isplitl [HsemG]; · iexact HsemG
    isplitl [HsemF]; · iexact HsemF
    isplitl [HsemO]; · iexact HsemO
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.Run

end
-- ==== Proof.Calls.lean ====
/-
  The SparseCore call as the launch theorem takes it: what the handshakes carry (each task its block of words, its
  share of the table, its block of the gathered array), the tasks' obligation, and the split of the three whole arrays
  into the 32 tasks' pieces and back.
-/
module

public import proofs.«01_k».proof.Proof.Tile

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## What the handshakes carry -/

/-- The number of tile `(c, i)`'s task. -/
abbrev taskOf (c : Fin ((K (F := F)).nCore 0)) (i : Fin ((K (F := F)).nSub 0)) : Fin 32 :=
  ⟨2 * i.val + c.val, by
    have h0 : c.val < 2 := c.isLt
    have h1 : i.val < 16 := i.isLt
    omega⟩

/-- The call hands a SparseCore the pieces of its sixteen tasks and takes them back, the rows gathered. -/
def P : (K (F := F)).Pay (nD := nD) (Val := Elt F) (Name := ℕ) (U := UU) where
  st := fun q d c => match q, c with
    | 0, c => bigSep Finset.univ fun i : Fin ((K (F := F)).nSub 0) => goPts m d (taskOf c i)
  dn := fun q d c => match q, c with
    | 0, c => bigSep Finset.univ fun i : Fin ((K (F := F)).nSub 0) => tdPts m d (taskOf c i)
  go := fun q d c i => match q, c, i with | 0, c, i => goPts m d (taskOf c i)
  td := fun q d c i => match q, c, i with | 0, c, i => tdPts m d (taskOf c i)
  x := fun _ _ => iprop(emp)

instance P_storable : (P (F := F) m).IsStorable where
  st q d c := match q, c with
    | 0, c => (inferInstance : BI.Storable (upEmb : UEmb _ 𝕄)
        (bigSep Finset.univ fun i : Fin ((K (F := F)).nSub 0) => goPts m d (taskOf c i)))
  dn q d c := match q, c with
    | 0, c => (inferInstance : BI.Storable (upEmb : UEmb _ 𝕄)
        (bigSep Finset.univ fun i : Fin ((K (F := F)).nSub 0) => tdPts m d (taskOf c i)))
  go q d c i := match q, c, i with
    | 0, c, i => (inferInstance : BI.Storable (upEmb : UEmb _ 𝕄) (goPts m d (taskOf c i)))
  td q d c i := match q, c, i with
    | 0, c, i => (inferInstance : BI.Storable (upEmb : UEmb _ 𝕄) (tdPts m d (taskOf c i)))

/-! ## The tasks' obligation -/

/-- The grid point of tile `(c, s)`. -/
def coordsV (c : Fin (grid0.bound 0)) (s : Fin (grid0.bound 1)) : grid0.Coords :=
  fun | 0 => c | 1 => s | ⟨_ + 2, h⟩ => absurd h (Nat.not_lt.2 (Nat.le_add_left _ _))

/-- The body the call runs on tile `(c, s)`. -/
theorem defs₀_vector [FloatOps F] (c : Fin τ.nSC) (s : Fin τ.nSub) :
    defs₀ (F := F) (.scVector c s) 0 ()
      = SparseCore.onTile hcore0 hsub0 (fun c s => cc0__sc_gather_body (coordsV c s)
          (Memref.whole main_arg1_scv) (Memref.isWhole_whole _) (Memref.whole main_arg0_scv) (Memref.isWhole_whole _)
          (Memref.whole main_v0_scv) (Memref.isWhole_whole _) (Memref.whole cc0_scratch0) (Memref.isWhole_whole _)
          (Memref.whole cc0_scratch1) (Memref.isWhole_whole _) cc0_scratch2 cc0_scoped0 cc0_scoped1) ⟨⟩ c s := rfl

/-- A record of waits with no new recorded waits but the tile's own is one the obligation accepts. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task meets what the launch asks of it. -/
theorem tileObl [FloatOps F] (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (task_run m d (coordsV ⟨_, hci.1⟩ ⟨_, hci.2⟩) hF hpre O W hO).trans (wp_mono frame _ _ fun _ => obl_post)

/-- A SparseCore's operands are its tasks' pieces, and its results are theirs. -/
theorem vecSplit : (K (F := F)).VecSplit' (P m) 0 := by
  intro d c
  show (bigSep Finset.univ fun i : Fin ((K (F := F)).nSub 0) => goPts m d (taskOf c i)) ⊢ |={Set.univ}=> iprop(
    (bigSep Finset.univ fun i : Fin ((K (F := F)).nSub 0) => goPts m d (taskOf c i))
      ∗ ((bigSep Finset.univ fun i : Fin ((K (F := F)).nSub 0) => tdPts m d (taskOf c i))
        -∗ (bigSep Finset.univ fun i : Fin ((K (F := F)).nSub 0) => tdPts m d (taskOf c i))))
  iintro H; imodintro
  isplitl [H]; · iexact H
  iintro H; iexact H

/-! ## The whole arrays are the tasks' pieces -/

/-- The word list, the table and the gathered array whole. -/
abbrev iPts (d : Dev nD) : sProp 𝕄 := iLoc d ↦{fullShare} m (iLoc d)
abbrev ePts (d : Dev nD) : sProp 𝕄 := eLoc d ↦{fullShare} m (eLoc d)
abbrev gPts (d : Dev nD) (f : Buf (Elt F) (gLoc d)) : sProp 𝕄 := gLoc d ↦{fullShare} f

theorem words_split (d : Dev nD) : (iPts m d : sProp 𝕄) = bigSep Finset.univ fun w => wordPts m d w := by
  unfold iPts wordPts
  rw [← pointsTo_biUnion Finset.univ (ℓ := iLoc d) (fun w => (wordBlk w).set) (fun i _ j _ h => Rect.part_disjoint wordsDvd h),
    Rect.biUnion_part wordsDvd]

theorem rows_split (d : Dev nD) (f : Buf (Elt F) (gLoc d)) : (gPts d f : sProp 𝕄) = bigSep Finset.univ fun w => rowPts d w f := by
  unfold gPts rowPts
  rw [← pointsTo_biUnion Finset.univ (ℓ := gLoc d) (fun w => (rowBlk w).set) (fun i _ j _ h => Rect.part_disjoint rowsDvd h),
    Rect.biUnion_part rowsDvd]

theorem table_split (d : Dev nD) : (ePts m d : sProp 𝕄) = bigSep Finset.univ fun w => tablePts m d w :=
  pointsTo_piecesOf Finset.univ (m (eLoc d)) (by decide) fullShare

/-- The 32 tasks are the tiles `(c, i)`. -/
theorem bigSep_tasks (Φ : Fin 32 → sProp 𝕄) :
    (bigSep Finset.univ fun c : Fin ((K (F := F)).nCore 0) => bigSep Finset.univ fun i : Fin ((K (F := F)).nSub 0) => Φ (taskOf c i))
      = bigSep Finset.univ Φ := by
  show (bigSep Finset.univ fun c : Fin 2 => bigSep Finset.univ fun i : Fin 16 => Φ (taskOf (F := F) c i)) = _
  rw [bigSep_univ_equiv ((Equiv.prodComm (Fin 2) (Fin 16)).trans (finProdFinEquiv : Fin 16 × Fin 2 ≃ Fin 32)) Φ, bigSep_univ_prod]
  refine bigSep_congr fun c _ => bigSep_congr fun i _ => congrArg Φ (Fin.ext ?_)
  show 2 * i.val + c.val = c.val + 2 * i.val
  omega

/-- What the call takes: the word list, the table, and the gathered array as the launch left it. -/
theorem st_eq (d : Dev nD) : (bigSep Finset.univ fun c : Fin ((K (F := F)).nCore 0) => (P m).st 0 d c)
    = iprop(iPts m d ∗ ePts m d ∗ gPts d (m (gLoc d))) := by
  refine (bigSep_tasks fun w => goPts m d w).trans ?_
  rw [words_split, table_split, rows_split, ← bigSep_sep', ← bigSep_sep']

/-- What it gives back: the same, the gathered array at the embedding rows. -/
theorem dn_eq (d : Dev nD) : (bigSep Finset.univ fun c : Fin ((K (F := F)).nCore 0) => (P m).dn 0 d c)
    = iprop(iPts m d ∗ ePts m d ∗ gPts d (emb m d)) := by
  refine (bigSep_tasks fun w => tdPts m d w).trans ?_
  rw [words_split, table_split, rows_split, ← bigSep_sep', ← bigSep_sep']

end Cert.Proof.Run

end
-- ==== Proof.Body.lean ====
/-
  One grid point of the TensorCore kernel: what its body does to the staging buffers it is handed, stated of any whole
  buffers and any float instance. At the first grid point the body transposes the embedding block into its scratch
  buffer; at every point it multiplies the weight block by the scratch, adds the bias block and stores the result.
-/
module

public import proofs.«01_k».proof.Proof.Setup
public import Idealize.ShloMosaic.Lib.VecWindow

@[expose] public section

noncomputable section

namespace Cert.Proof.Run

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The offset of an access at the origin. -/
theorem origin_eq : (![0, 0] : Fin 2 → Nat) = fun _ => 0 := funext fun a => by fin_cases a <;> rfl

/-- The bit the body branches on is set exactly at the first grid point. -/
theorem first_bit (n : Nat) (hn : n < 20) :
    Scalar.cmpi .ne (Scalar.extui (Scalar.cmpi .eq (BitVec.ofNat 32 n) 0#32) : BitVec 32) 0#32 = 1#1 ↔ n = 0 := by
  interval_cases n <;> decide

section
variable (c : Dev nD) (i : grid1.Coords)
  (a1 : Memref sig .tc .vmem S5120x128 .f32) (h1 : a1.IsWhole) (a2 : Memref sig .tc .vmem S1024x128 .f32) (h2 : a2.IsWhole)
  (a3 : Memref sig .tc .vmem S1x5120 .f32) (h3 : a3.IsWhole) (a4 : Memref sig .tc .vmem S5120x1024 .f32) (h4 : a4.IsWhole)
  (a5 : Memref sig .tc .vmem S128x1024 .f32) (h5 : a5.IsWhole)
  (X1 : S5120x128.Idx → Elt F .f32) (X2 : S1024x128.Idx → Elt F .f32) (X3 : S1x5120.Idx → Elt F .f32)
  (X4 : S5120x1024.Idx → Elt F .f32) (X5 : S128x1024.Idx → Elt F .f32)

/-- At the first grid point: the scratch ends at the transposed embedding block, and the output block is the product
    with it. -/
theorem body_first (hi : (i 0).val = 0) (Q : PUnit → sProp 𝕄) :
    iprop(owns c a1 fullShare X1 ∗ owns c a2 fullShare X2 ∗ owns c a3 fullShare X3 ∗ owns c a4 fullShare X4 ∗ owns c a5 fullShare X5
        ∗ (iprop(owns c a1 fullShare X1 ∗ owns c a2 fullShare X2 ∗ owns c a3 fullShare X3
              ∗ owns c a4 fullShare (k1_pay2 X1 (k1_pay1 X2) X3) ∗ owns c a5 fullShare (k1_pay1 X2)) -∗ Q ⟨⟩))
      ⊢ wp frame (wpE (defs₀ (F := F)) 𝒱₀ c none) Set.univ (cc1__mmT_body (F := F) i a1 h1 a2 h2 a3 h3 a4 h4 a5 h5) Q := by
  have hb := (first_bit (i 0).val (by have := (i 0).isLt; exact this)).mpr hi
  rw [cc1__mmT_body_eq_skeleton]
  unfold cc1__mmT_body_skel owns
  iintro ⟨⟨%f1, %e1, H1⟩, ⟨%f2, %e2, H2⟩, ⟨%f3, %e3, H3⟩, ⟨%f4, %e4, H4⟩, ⟨%f5, %e5, H5⟩, Hk⟩
  sl_exec
  sl_step
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]
  · iexists _; isplitr; rotate_left
    · iexact H4
    · ipureintro
      unfold body_first.sl.v5 body_first.sl.H5_1
      rw [View.read_writes_full]
      rw [View.readAt_full, View.readAt_full, View.readCov_full, View.readAt_full, e1, e2, e3]
  · iexists _; isplitr; rotate_left
    · iexact H5
    · ipureintro
      unfold body_first.sl.H5_1
      rw [View.read_writes_full]
      rw [View.readAt_full, e2]

/-- At every later grid point: the scratch is left alone, and the output block is the product with what it holds. -/
theorem body_later (hi : (i 0).val ≠ 0) (Q : PUnit → sProp 𝕄) :
    iprop(owns c a1 fullShare X1 ∗ owns c a2 fullShare X2 ∗ owns c a3 fullShare X3 ∗ owns c a4 fullShare X4 ∗ owns c a5 fullShare X5
        ∗ (iprop(owns c a1 fullShare X1 ∗ owns c a2 fullShare X2 ∗ owns c a3 fullShare X3
              ∗ owns c a4 fullShare (k1_pay2 X1 X5 X3) ∗ owns c a5 fullShare X5) -∗ Q ⟨⟩))
      ⊢ wp frame (wpE (defs₀ (F := F)) 𝒱₀ c none) Set.univ (cc1__mmT_body (F := F) i a1 h1 a2 h2 a3 h3 a4 h4 a5 h5) Q := by
  have hb : ¬ Scalar.cmpi .ne (Scalar.extui (Scalar.cmpi .eq (BitVec.ofNat 32 (i 0).val) 0#32) : BitVec 32) 0#32 = 1#1 :=
    fun h => hi ((first_bit (i 0).val (by have := (i 0).isLt; exact this)).mp h)
  rw [cc1__mmT_body_eq_skeleton]
  unfold cc1__mmT_body_skel owns
  iintro ⟨⟨%f1, %e1, H1⟩, ⟨%f2, %e2, H2⟩, ⟨%f3, %e3, H3⟩, ⟨%f4, %e4, H4⟩, ⟨%f5, %e5, H5⟩, Hk⟩
  sl_exec
  sl_step
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]
  · iexists _; isplitr; rotate_left
    · iexact H4
    · ipureintro
      rw [View.read_writes_full]
      rw [View.readAt_full, View.readAt_full, View.readAt_full, e1, e3, e5]
  · iexists f5; isplitr; · ipureintro; exact e5
    iexact H5
end

end Cert.Proof.Run
-- ==== Proof.Region.lean ====
/-
  The TensorCore kernel's region: the pipeline's proof data, its body obligation at every grid point, and the region as
  one step of the main program. The weight and bias windows are cut at the array's end at the last grid point, where
  the rows of the staging buffers past the array hold anything; so what the body leaves in the output window is stated
  up to those rows.
-/
module

public import proofs.«01_k».proof.Proof.Body
public import Idealize.ShloMosaic.Lib.Pipeline.DatRel
public import Idealize.ShloMosaic.Lib.Pipeline.ArrRel
public import Idealize.ShloMosaic.Lib.Pipeline.FrameBody

@[expose] public section

noncomputable section

namespace Cert.Proof.Run

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)

variable {F : FTy → Type} [FloatOps F]

local notation "𝕄" => MT nD τ sig (HIx 1) (Elt F) ℕ UU ℕ

/-- The contents the region's four arrays have when it starts. -/
structure Arrays (F : FTy → Type) where
  /-- The transposed weights. -/
  w : S100000x128.Idx → Elt F .f32
  /-- The gathered embedding rows. -/
  e : S1024x128.Idx → Elt F .f32
  /-- The bias, as one row. -/
  b : S1x100000.Idx → Elt F .f32
  /-- The output array. -/
  o : S100000x1024.Idx → Elt F .f32

variable (A : Dev nD → Arrays F)

/-- The weight block of grid point `t`, the rows inside the array. -/
def wBlk (c : Dev nD) (t : Fin cfg1.N) : (win1_0.xblock (grid1.coords t)).Idx → Elt F .f32 :=
  (win1_0.blk t).view.read (Elt F) (A c).w
/-- The bias block of grid point `t`, the columns inside the array. -/
def bBlk (c : Dev nD) (t : Fin cfg1.N) : (win1_2.xblock (grid1.coords t)).Idx → Elt F .f32 :=
  (win1_2.blk t).view.read (Elt F) (A c).b
/-- The weight block in its staging buffer, `d` past the array's end. -/
def wFull (c : Dev nD) (t : Fin cfg1.N) (d : S5120x128.Idx → Elt F .f32) : S5120x128.Idx → Elt F .f32 :=
  win1_0.fill (grid1.coords t) d (wBlk A c t)
/-- The bias block in its staging buffer, `d` past the array's end. -/
def bFull (c : Dev nD) (t : Fin cfg1.N) (d : S1x5120.Idx → Elt F .f32) : S1x5120.Idx → Elt F .f32 :=
  win1_2.fill (grid1.coords t) d (bBlk A c t)

/-- The block the body leaves for the output at grid point `t`, given what fills the two clipped blocks. -/
def oFull (c : Dev nD) (t : Fin cfg1.N) (dw : S5120x128.Idx → Elt F .f32) (db : S1x5120.Idx → Elt F .f32) : S5120x1024.Idx → Elt F .f32 :=
  k1_pay2 (wFull A c t dw) (k1_pay1 (A c).e) (bFull A c t db)

/-- The TensorCore's recorded waits during the region: those of the SparseCore call before it. -/
abbrev recd (c : Dev nD) : Set (SemLoc sig × HIx 1) := {p | (K (F := F)).lev (T c, p.1) p.2 ≤ 8 * 1}

/-- The scratch buffer before grid point `n`: anything at the first, the transposed embedding rows from then on. -/
def scrAt (c : Dev nD) (n : ℕ) : sProp 𝕄 :=
  iprop(∃ X, ⌜n ≠ 0 → X = k1_pay1 (A c).e⌝ ∗ owns (c : Thread nD τ) (Memref.whole cc1_scratch0) fullShare X)

/-- The pipeline's proof data: the arrays' contents, what the input windows hold after the body, and the scratch
    buffer, which from the second grid point on holds the transposed embedding rows. -/
def dat (c : Dev nD) : Dat τ (Elt F) (HIx 1) ℕ UU ℕ cfg1 c where
  A w := match w with
    | ⟨0, _⟩ => (A c).w
    | ⟨1, _⟩ => (A c).e
    | ⟨2, _⟩ => (A c).b
    | ⟨3, _⟩ => (A c).o
  after w t := match w with
    | ⟨0, _⟩ => wFull A c t fun _ => Scalar.ofBits .f32 0#32
    | ⟨1, _⟩ => (A c).e
    | ⟨2, _⟩ => bFull A c t fun _ => Scalar.ofBits .f32 0#32
    | ⟨3, _⟩ => fun _ => Scalar.ofBits .f32 0#32
  Φ t := scrAt A c t.val
  q _ := fullShare
  owed _ := 0
  recorded _ := recd (F := F) c

/-- The window whose contents are held to a predicate only: the output. -/
def marked : Fin cfg1.W → Bool := fun w => decide (w = (3 : Fin 4))
/-- What the output window holds after the body. -/
def outRel (c : Dev nD) : (w : Fin cfg1.W) → Fin cfg1.N → ((cfg1.win w).block.Idx → Elt F (cfg1.win w).elt) → Prop
  | ⟨0, _⟩, _, _ => True
  | ⟨1, _⟩, _, _ => True
  | ⟨2, _⟩, _, _ => True
  | ⟨3, _⟩, t, X => ∃ dw db, X = oFull A c t dw db

/-- The weight window holds its block, just fetched; -/
theorem before_w (c : Dev nD) (t : Fin cfg1.N) (d) : (dat A c).before (0 : Fin 4) t d = wFull A c t d := by
  rw [Dat.before_fetched _ _ _ (fetch1_0 t)]; rfl
/-- the bias window likewise; -/
theorem before_b (c : Dev nD) (t : Fin cfg1.N) (d) : (dat A c).before (2 : Fin 4) t d = bFull A c t d := by
  rw [Dat.before_fetched _ _ _ (fetch1_2 t)]; rfl

/-- Grid point `t` has coordinate `t`. -/
theorem coords_val : ∀ t : Fin grid1.N, (grid1.coords t 0).val = t.val := by decide

/-- The embedding window's one block is the whole array. -/
theorem eBlk (c : Dev nD) (t : Fin cfg1.N) : (dat A c).blockOf (1 : Fin 4) t = (A c).e := by
  funext j
  show (A c).e _ = (A c).e _
  congr 1
  funext a
  fin_cases a <;> (apply Fin.ext; simp [Pipeline.Window.blk]; rfl)

/-- The embedding window holds the whole array at every grid point, fetched there or kept. -/
theorem before_e (c : Dev nD) (t : Fin cfg1.N) (d) : (dat A c).before (1 : Fin 4) t d = (A c).e := by
  rw [(dat A c).before_in_eq_fetched (1 : Fin 4) rfl (fun _ => rfl) (fun _ _ _ => rfl)
    (fun t => by
      rw [eBlk]
      rfl) t d]
  rw [(dat A c).fetched_of_clip_none (1 : Fin 4) t (fun _ => rfl) d (A c).e]
  show win1_1.fill (grid1.coords t) (A c).e ((dat A c).blockOf (1 : Fin 4) t) = (A c).e
  rw [eBlk]
  exact win1_1.fill_cut (grid1.coords t) (A c).e

/-- The body's obligation at every grid point. -/
theorem body_ok (c : Dev nD) :
    Pipeline.BodyObligationRel (dat A c) (defs₀ (F := F)) 𝒱₀ none Set.univ marked (outRel A c) := fun t => by
  rw [bigSep_W1, bigSep_W1]
  simp only [show marked (0 : Fin 4) = false from rfl, show marked (1 : Fin 4) = false from rfl,
    show marked (2 : Fin 4) = false from rfl, show marked (3 : Fin 4) = true from rfl]
  rw [show (dat A c).owesAt none t.succ = (dat A c).owesAt none t.castSucc from rfl,
    show (dat A c).Φ t.castSucc = scrAt A c t.val from rfl, show (dat A c).Φ t.succ = scrAt A c (t.val + 1) from rfl]
  unfold scrAt
  iintro ⟨HΦ, Ho, ⟨%d0, H0⟩, ⟨%d1, H1⟩, ⟨%d2, H2⟩, ⟨%d3, -, H3⟩⟩
  rw [before_w A c t d0, before_e A c t d1, before_b A c t d2]
  have hw : win1_0.cut (grid1.coords t) (wFull A c t fun _ => Scalar.ofBits .f32 0#32) = wBlk A c t := win1_0.cut_fill _ _ _
  have hb : win1_2.cut (grid1.coords t) (bFull A c t fun _ => Scalar.ofBits .f32 0#32) = bBlk A c t := win1_2.cut_fill _ _ _
  icases HΦ with ⟨%X, %hX, H5⟩
  have hpt : ∀ Q : PUnit → sProp 𝕄, iprop(owns (c : Thread nD τ) (st1_0 t) fullShare (wFull A c t d0) ∗ owns (c : Thread nD τ) (st1_1 t) fullShare (A c).e
      ∗ owns (c : Thread nD τ) (st1_2 t) fullShare (bFull A c t d2) ∗ owns (c : Thread nD τ) (st1_3 t) fullShare d3
      ∗ owns (c : Thread nD τ) (Memref.whole cc1_scratch0) fullShare X
      ∗ (iprop(owns (c : Thread nD τ) (st1_0 t) fullShare (wFull A c t d0) ∗ owns (c : Thread nD τ) (st1_1 t) fullShare (A c).e
        ∗ owns (c : Thread nD τ) (st1_2 t) fullShare (bFull A c t d2) ∗ owns (c : Thread nD τ) (st1_3 t) fullShare (oFull A c t d0 d2)
        ∗ owns (c : Thread nD τ) (Memref.whole cc1_scratch0) fullShare (k1_pay1 (A c).e)) -∗ Q ⟨⟩))
      ⊢ wp frame (wpE (defs₀ (F := F)) 𝒱₀ (c : Thread nD τ) none) Set.univ (bodyAt1 (F := F) t) Q := fun Q => by
    by_cases h0 : t.val = 0
    · exact body_first c (grid1.coords t) _ _ _ _ _ _ _ _ _ _ (wFull A c t d0) (A c).e (bFull A c t d2) d3 X
        ((coords_val t).trans h0) Q
    · rw [hX h0]
      exact body_later c (grid1.coords t) _ _ _ _ _ _ _ _ _ _ (wFull A c t d0) (A c).e (bFull A c t d2) d3 (k1_pay1 (A c).e)
        (fun h => h0 ((coords_val t).symm.trans h)) Q
  iapply (hpt _)
  isplitl [H0]; · iexact H0
  isplitl [H1]; · iexact H1
  isplitl [H2]; · iexact H2
  isplitl [H3]; · iexact H3
  isplitl [H5]; · iexact H5
  iintro ⟨H0, H1, H2, H3, H5⟩
  isplitl [H5]
  · iexists (k1_pay1 (A c).e); isplitr; · ipureintro; exact fun _ => rfl
    iexact H5
  isplitl [Ho]; · iexact Ho
  isplitl [H0]
  · iexists d0
    change _ ⊢ owns (c : Thread nD τ) (st1_0 t) fullShare (win1_0.fill (grid1.coords t) d0 (win1_0.cut (grid1.coords t) (wFull A c t fun _ => Scalar.ofBits .f32 0#32)))
    rw [hw]; exact .rfl
  isplitl [H1]; · iexact H1
  isplitl [H2]
  · iexists d2
    change _ ⊢ owns (c : Thread nD τ) (st1_2 t) fullShare (win1_2.fill (grid1.coords t) d2 (win1_2.cut (grid1.coords t) (bFull A c t fun _ => Scalar.ofBits .f32 0#32)))
    rw [hb]; exact .rfl
  · iexists (oFull A c t d0 d2); isplitr; · ipureintro; exact ⟨d0, d2, rfl⟩
    iexact H3

/-! ## The region as one step of the main program -/

/-- No pipeline has a prefetched table. -/
abbrev adm : (p : Fin 1) → (pcfgs (F := F) p).Adm := fun p => (cfgs p).toPCfg_adm

/-- The proof data as relations, the output window held to what the body leaves there. -/
def rdats : (p : Fin 1) → (c : Dev nD) → Pipeline.RDat τ (Elt F) (HIx 1) ℕ UU ℕ (Pipeline.pin (pcfgs (F := F)) adm p) c
  | 0 => fun c => (dat A c).toRRel marked (outRel A c)

/-- The output array may hold `G` once every block has been written back. -/
def OutAt (c : Dev nD) (G : S100000x1024.Idx → Elt F .f32) : Prop :=
  ((dat A c).toRRel marked (outRel A c)).ArrAt (3 : Fin 4) cfg1.N G

/-- The TensorCore owes nothing and has recorded only waits of the SparseCore call. -/
abbrev idleTc (c : Dev nD) : sProp 𝕄 :=
  iprop(∃ W, ⌜(K (F := F)).WBelow (T c) W (8 * 1)⌝ ∗ owes (T c : Thread nD τ) 0 W)

/-- The region's four arrays held whole. -/
abbrev arrPts (c : Dev nD) (a : Arrays F) : sProp 𝕄 :=
  iprop((wtLoc c ↦{fullShare} a.w) ∗ (gLoc c ↦{fullShare} a.e) ∗ (brLoc c ↦{fullShare} a.b) ∗ (otLoc c ↦{fullShare} a.o))

theorem no_tables {M : Type} [URA M] (Φ : Fin 0 → sProp M) : bigSep Finset.univ Φ = (BI.emp : sProp M) :=
  bigSep_univ_eq_bigSepL [] (by decide) (by decide) Φ

/-- Every share of the proof data is the full one. -/
theorem share_full (c : Dev nD) : ∀ w, (rdats A 0 c).share w = fullShare :=
  fun w => (dat A c).share_full (fun _ => rfl) w

theorem owes_in (c : Dev nD) (t) : (idleTc c : sProp 𝕄) ⊢ (dat A c).owesAt none t := by
  unfold Pipeline.Dat.owesAt Pipeline.owesWithin Pipeline.Dat.bound
  iintro ⟨%W, %hW, HO⟩
  iexists W
  isplitr; · ipureintro; exact fun p hp => Or.inl (hW p hp)
  iexact HO

theorem owes_out (c : Dev nD) (t) : (dat A c).owesAt none t ⊢ (idleTc c : sProp 𝕄) := by
  unfold Pipeline.Dat.owesAt Pipeline.owesWithin Pipeline.Dat.bound
  iintro ⟨%W, %hW, HO⟩
  iexists W
  isplitr
  · ipureintro
    intro p hp
    rcases hW hp with h | h
    · exact h
    · obtain ⟨_, _, rfl⟩ := h
      exact Nat.zero_le _
  iexact HO

/-- The region: from its arrays to the output array at contents it may hold. -/
def region : Pipeline.RDat.RegionSeg (pcfgs (F := F)) adm (rdats A) none defs₀ 𝒱₀ (K (F := F)).L (K (F := F)).lev 0 where
  win := launch1.win.to₀
  block_pos := block_pos1
  stage_whole := stage_whole1
  K := PEmpty
  osem k := k.elim
  ho := Pipeline.OwnSemFacts.none _
  hbody c := (body_ok A c).toRRel
  hwaits := Pipeline.RDat.hwaits_of_owed_zero _ _ _ _ _ _ 0 fun _ _ => rfl
  pre c := iprop(arrPts c (A c) ∗ idleTc c)
  post c := iprop((∃ G, ⌜OutAt A c G⌝ ∗ (otLoc c ↦{fullShare} G)) ∗ idleTc c)
  X _ := iprop(emp)
  Y _ := iprop(emp)
  Z _ := iprop(emp)
  hentry c := by
    rw [Pipeline.ownSems0_none, Pipeline.RDat.arrays_eq (pcfgs (F := F)) adm (rdats A) 0 c arr_whole1 (share_full A c)]
    unfold Pipeline.prefHeld
    rw [no_tables, bigSep_W1]
    iintro ⟨⟨⟨H0, H1, H2, H3⟩, HO⟩, -, -⟩
    imodintro
    isplitl [H0 H1 H2 H3]
    · isplitl [H0]; · iexact H0
      isplitl [H1]; · iexact H1
      isplitl [H2]; · iexact H2
      iexact H3
    isplitr; · iempintro
    isplitl [HO]; · iapply (owes_in A c 0); iexact HO
    isplitr <;> iempintro
  hin c := by
    rw [show (rdats A 0 c).Φ 0 = scrAt A c 0 from rfl, scopedRest1_eq]
    simp only [scrAt, owns_whole_eq]
    iintro ⟨-, -, ⟨%f, H⟩⟩
    iexists f
    isplitr; · ipureintro; exact fun h => absurd rfl h
    iexists f
    isplitr; · ipureintro; rfl
    iexact H
  hout c := by
    rw [show (rdats A 0 c).Φ (Fin.last _) = scrAt A c cfg1.N from rfl, scopedRest1_eq, Pipeline.ownSems0_none]
    simp only [scrAt, owns_whole_eq]
    iintro ⟨%X, -, ⟨%f, -, H⟩⟩
    isplitr; · iempintro
    isplitr; · iempintro
    iexists f
    iexact H
  hexit c := by
    rw [Pipeline.RDat.arraysAt_eq (pcfgs (F := F)) adm (rdats A) 0 c arr_whole1 (share_full A c), bigSep_W1]
    iintro ⟨⟨-, -, -, ⟨%G, %hG, H3⟩⟩, HO, -, -⟩
    imodintro
    isplitl [H3]
    · iexists G; isplitr; · ipureintro; exact hG
      iexact H3
    iapply (owes_out A c (Fin.last _)); iexact HO

end Cert.Proof.Run
-- ==== Proof.Main.lean ====
/-
  The whole program's run: the launch's ghost state, the main program on the TensorCore (the SparseCore call, the host
  transposes and reshape, the TensorCore kernel's region), and what every run ends with.
-/
module

public import proofs.«01_k».proof.Proof.Calls
public import proofs.«01_k».proof.Proof.Region

@[expose] public section

noncomputable section

namespace Cert.Proof.Run

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch's ghost state -/

/-- The handshakes' rounds and the pipeline's, every cell at its start. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What each device's main program takes of it: the region's cells and tokens. -/
abbrev G₀ (d : Dev nD) : sProp 𝕄 :=
  iprop((bigSep Finset.univ fun p : Fin 1 => Pipeline.cellsGhost (Pipeline.pin (pcfgs (F := F)) adm) EP p d)
    ∗ bigSep Finset.univ fun p : Fin 1 => Pipeline.toksInit (Pipeline.pin (pcfgs (F := F)) adm) EP p d)

/-- The pipeline's component, through its two steps. -/
theorem own_EP (a : UR sig nD τ) :
    BI.own (((Emb.inl : Emb (UR sig nD τ) (UR sig nD τ × Counters)).trans
      (embR : Emb (UR sig nD τ × Counters) (MT nD τ sig (HIx 1) (Elt F) ℕ UU ℕ))) a) ⊢ BI.own (EP (F := F) a) := by
  unfold EP; exact .rfl

/-- The launch's ghost state splits into the handshakes' part and each device's pipeline part. -/
theorem hu₀ : (ownU (u₀ (F := F)) : sProp 𝕄)
    ⊢ |={Set.univ}=> iprop(BI.own (EH (initOf (K (F := F)).hsCells (K (F := F)).hsToks)) ∗ (bigSep Finset.univ fun d : Dev nD => G₀ d)
        ∗ bigSep Finset.univ fun thr : Thread nD τ => bigSep Finset.univ fun q : Fin 1 => (P m).x q thr) := by
  unfold u₀ G₀
  rw [bigSep_sep']
  iintro Hu
  ihave H := (ownU_pair _ _) $$ Hu
  icases H with ⟨HH, HR⟩
  ihave HR2 := (own_pair_emb embR _ _) $$ HR
  icases HR2 with ⟨HP, -⟩
  ihave HP2 := (own_EP _) $$ HP
  imod (Pipeline.fund_ghost (Pipeline.pin (pcfgs (F := F)) adm) (EP (F := F)) cellOf_inj) $$ HP2 with ⟨Hc, Ht⟩
  imodintro
  isplitl [HH]; · iexact HH
  isplitl [Hc Ht]
  · isplitl [Hc]; · iexact Hc
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1)]
  rw [show (bigSep Finset.univ fun _ : Thread nD τ => iprop(emp)) = (iprop(emp) : sProp 𝕄) from bigSep_emp_const _]
  iempintro

/-! ## The host operations -/

/-- A host operation that reads one array and writes another, its own: from both arrays held, the first is kept and the
    second holds the operation's value. -/
theorem wp_host {Λ : Labels} (defs : Defs nD τ sig (Elt F) Λ) (𝒱' : Variants) (m : (ℓ : Loc nD τ sig) → Buf (Elt F) ℓ)
    (c : Dev nD) (x y : Ref sig .tc) (hxy : Proc.devRef (τ := τ) .tc x ≠ Proc.devRef .tc y)
    {hp : (T c : Thread nD τ).2.kind.runsHlo = true} (op : HloOp τ sig (Elt F))
    (hb : op.bufs = {Proc.devRef .tc x, Proc.devRef .tc y}) (hw : op.writes = {Proc.devRef .tc y}) (hf : op.fresh = ∅)
    (f : Buf (Elt F) ((T c : Thread nD τ).loc x)) (g g' : Buf (Elt F) ((T c : Thread nD τ).loc y))
    (hg : ∀ V : Valuation τ sig (Elt F), V (Proc.devRef .tc x) = f → op.result V (Proc.devRef .tc y) = g')
    (Q : PUnit → sProp (MT nD τ sig (HIx 1) (Elt F) ℕ UU ℕ)) :
    iprop(boundary (T c : Thread nD τ) ∗ ((T c : Thread nD τ).loc x ↦{fullShare} f) ∗ ((T c : Thread nD τ).loc y ↦{fullShare} g)
        ∗ (iprop(boundary (T c : Thread nD τ) ∗ ((T c : Thread nD τ).loc x ↦{fullShare} f) ∗ ((T c : Thread nD τ).loc y ↦{fullShare} g')) -∗ Q ⟨⟩))
      ⊢ wp frame (wpE defs 𝒱' (T c) none) Set.univ (hlo hp op fun _ => .ret ⟨⟩) Q := by
  let V : Valuation τ sig (Elt F) := Function.update (Function.update (fun b => m (c, b)) (Proc.devRef .tc x) f) (Proc.devRef .tc y) g
  have hVx : V (Proc.devRef .tc x) = f := by
    show Function.update _ _ _ _ = _
    rw [Function.update_of_ne hxy, Function.update_self]
  have hVy : V (Proc.devRef .tc y) = g := Function.update_self ..
  have hRx : op.result V (Proc.devRef .tc x) = f := by
    rw [op.result_of_not_mem V (by rw [hw, Finset.mem_singleton]; exact hxy), hVx]
  have hheld : ∀ W : Valuation τ sig (Elt F), (StableHlo.held (T c : Thread nD τ) op.bufs W : sProp (MT nD τ sig (HIx 1) (Elt F) ℕ UU ℕ))
      = iprop(((T c : Thread nD τ).loc x ↦{fullShare} W (Proc.devRef .tc x)) ∗ ((T c : Thread nD τ).loc y ↦{fullShare} W (Proc.devRef .tc y))) := by
    intro W
    unfold StableHlo.held
    rw [hb, SparseCore.bigSep_insert' (by rw [Finset.mem_singleton]; exact hxy), bigSep_singleton]
  iintro ⟨Hb, Hx, Hy, Hk⟩
  iapply (StableHlo.wp_hlo_within 𝒱' (T c) none Set.univ (op := op) (Finset.Subset.refl _) (V := V) hf) $$ [Hb Hx Hy]
  · isplitl [Hb]; · iexact Hb
    rw [hheld, hVx, hVy]
    isplitl [Hx]; · iexact Hx
    iexact Hy
  rw [hheld, hRx, hg V hVx, wp_ret]
  iintro ⟨Hb, Hx, Hy⟩
  imodintro
  iapply Hk
  isplitl [Hb]; · iexact Hb
  isplitl [Hx]; · iexact Hx
  iexact Hy

/-! ## The main program on the TensorCore -/

/-- The program's nine arrays, one by one. -/
theorem unscopedBufs_eq (d : Dev nD) (W : (b : Ref sig .tc) → Buf (Elt F) ((d.tc : Thread nD τ).loc b)) :
    (unscopedBufs d W : sProp 𝕄) = iprop((iLoc d ↦{fullShare} W main_arg0) ∗ (eLoc d ↦{fullShare} W main_arg1)
      ∗ (wLoc d ↦{fullShare} W main_arg2) ∗ (bLoc d ↦{fullShare} W main_arg3) ∗ (gLoc d ↦{fullShare} W main_v0)
      ∗ (wtLoc d ↦{fullShare} W main_v1) ∗ (brLoc d ↦{fullShare} W main_v2) ∗ (otLoc d ↦{fullShare} W main_v3)
      ∗ oLoc d ↦{fullShare} W main_v4) := by
  unfold unscopedBufs
  rw [show (Finset.univ.filter fun b : Ref sig .tc => ¬ b.isScoped)
      = {main_arg0, main_arg1, main_arg2, main_arg3, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The transposed weights. -/
def wT (d : Dev nD) : S100000x128.Idx → Elt F .f32 :=
  transpose S100000x128 [1, 0] (m (wLoc d) : S128x100000.Idx → Elt F .f32) transposes_S128x100000_S100000x128_1_0
/-- The bias as one row. -/
def bR (d : Dev nD) : S1x100000.Idx → Elt F .f32 :=
  fun i => shapeCast S1x100000 (m (bLoc d) : S100000.Idx → Elt F .f32) shapeCasts_S100000_S1x100000 i
/-- The TensorCore kernel's arrays when it starts. -/
def arrs (d : Dev nD) : Arrays F := ⟨wT m d, emb m d, bR m d, m (otLoc d)⟩
/-- The result, of the TensorCore kernel's output `G`. -/
def res (G : S100000x1024.Idx → Elt F .f32) : S1024x100000.Idx → Elt F .f32 :=
  transpose S1024x100000 [1, 0] G transposes_S100000x1024_S1024x100000_1_0

/-- What device `d`'s main program ends with: the arguments as launched, the result the transpose of an output the
    TensorCore kernel may leave. -/
abbrev FIN (d : Dev nD) : sProp 𝕄 :=
  iprop((iLoc d ↦{fullShare} m (iLoc d)) ∗ (eLoc d ↦{fullShare} m (eLoc d)) ∗ (wLoc d ↦{fullShare} m (wLoc d))
    ∗ (bLoc d ↦{fullShare} m (bLoc d)) ∗ ∃ G, ⌜OutAt (arrs m) d G⌝ ∗ (oLoc d ↦{fullShare} (res G : Buf (Elt F) (oLoc d))))

/-- The TensorCore's state after the one call is that it owes nothing, beside the rest. -/
theorem tcSt_one (d : Dev nD) : ∃ R : sProp 𝕄, (K (F := F)).tcSt EH d 1 = iprop(idleTc d ∗ R) := by
  unfold SparseCore.Cfg.tcSt
  rw [(K (F := F)).Otc_end d (le_refl 1)]
  exact ⟨_, rfl⟩

/-- The main program on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G₀ d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_one (F := F) d
  unfold SparseCore.Cfg.tcRes SparseCore.Cfg.tcEnd
  rw [unscopedBufs_eq, hR]
  simp only [main, wp_bind, wp_pure]
  iintro ⟨#Hctx, Hst, ⟨Hb, ⟨Hi, He, Hw, Hbi, Hg, Hwt, Hbr, Hot, Ho⟩, Hts, -⟩, ⟨HGc, HGt⟩⟩
  ihave #Hlev := (SparseCore.Cfg.ctx_levAts κ) $$ Hctx
  iapply ((K (F := F)).wp_run (D (F := F)) 𝒱 (EH := EH) (P := P m) κ d 0) $$ [-]
  isplitr; · iexact Hctx
  isplitl [Hst]; · iexact Hst
  isplitl [Hi He Hg]
  · rw [st_eq]
    isplitl [Hi]; · iexact Hi
    isplitl [He]; · iexact He
    iexact Hg
  iintro ⟨Hst, Hdn⟩
  ihave Hdn' := (Entails.of_eq (dn_eq m d)) $$ Hdn
  icases Hdn' with ⟨Hi, He, Hg⟩
  ihave Hst1 := (Entails.of_eq (show (K (F := F)).tcSt EH d ((0 : Fin 1).val + 1) = _ from hR)) $$ Hst
  icases Hst1 with ⟨Hidle, HR⟩
  iapply (wp_host _ 𝒱 m d main_arg2 main_v1 (by decide) _ rfl rfl rfl (m (wLoc d)) (m (wtLoc d)) (wT m d)
    (fun V hV => by rw [StableHlo.unary_result, hV]; rfl)) $$ [-]
  isplitl [Hb]; · iexact Hb
  isplitl [Hw]; · iexact Hw
  isplitl [Hwt]; · iexact Hwt
  iintro ⟨Hb, Hw, Hwt⟩
  iapply (wp_host _ 𝒱 m d main_arg3 main_v2 (by decide) _ rfl rfl rfl (m (bLoc d)) (m (brLoc d)) (bR m d)
    (fun V hV => by rw [StableHlo.reshape_result, hV]; rfl)) $$ [-]
  isplitl [Hb]; · iexact Hb
  isplitl [Hbi]; · iexact Hbi
  isplitl [Hbr]; · iexact Hbr
  iintro ⟨Hb, Hbi, Hbr⟩
  iapply ((K (F := F)).wp_liftProg (D (F := F)) 𝒱 (T d) Set.univ none (Prog.lift (.customCall (Pipeline.entry 0) ())) _) $$ [-]
  iapply (Pipeline.RDat.RegionSeg.wp (pcfgs (F := F)) adm (rdats (arrs m)) none cellOf_inj EP defs₀ 𝒱₀ (K (F := F)).L (K (F := F)).lev
    (region (arrs m)) d none (fun u hu => nomatch hu) (fun x => .ret x) _) $$ [-]
  isplitl [Hi He Hw Hbi Ho Hts HR]
  · rw [wp_ret]
    iintro ⟨Hb, Hpost⟩
    ihave Hpost2 := (Entails.of_eq (show (region (arrs m)).post d
      = iprop((∃ G, ⌜OutAt (arrs m) d G⌝ ∗ (otLoc d ↦{fullShare} G)) ∗ idleTc d) from rfl)) $$ Hpost
    icases Hpost2 with ⟨⟨%G, %hG, Hot⟩, Hidle⟩
    imodintro
    iapply (wp_host _ 𝒱 m d main_v3 main_v4 (by decide) _ rfl rfl rfl (G : Buf (Elt F) (otLoc d)) (m (oLoc d)) (res G)
      (fun V hV => by rw [StableHlo.unary_result, hV]; rfl)) $$ [-]
    isplitl [Hb]; · iexact Hb
    isplitl [Hot]; · iexact Hot
    isplitl [Ho]; · iexact Ho
    iintro ⟨Hb, -, Ho⟩
    imodintro
    isplitl [Hidle HR]
    · isplitl [Hidle]; · iexact Hidle
      iexact HR
    isplitr [Hb Hts]
    · isplitl [Hi]; · iexact Hi
      isplitl [He]; · iexact He
      isplitl [Hw]; · iexact Hw
      isplitl [Hbi]; · iexact Hbi
      iexists G
      isplitr; · ipureintro; exact hG
      iexact Ho
    isplitl [Hb] <;> iassumption
  isplitl [Hb]; · iexact Hb
  isplitl [Hwt Hg Hbr Hot Hidle]
  · iapply (Entails.of_eq (show iprop(arrPts d (arrs m d) ∗ idleTc d) = (region (arrs m)).pre d from rfl)) $$ [-]
    isplitr [Hidle]
    · isplitl [Hwt]; · iexact Hwt
      isplitl [Hg]; · iexact Hg
      isplitl [Hbr]; · iexact Hbr
      iexact Hot
    iexact Hidle
  isplitr; · iexact Hlev
  isplitl [HGc]
  · iapply (Entails.of_eq (show (bigSep Finset.univ fun p : Fin 1 => Pipeline.cellsGhost (Pipeline.pin (pcfgs (F := F)) adm) EP p d)
      = (Pipeline.cellsGhost (Pipeline.pin (pcfgs (F := F)) adm) EP 0 d : sProp 𝕄) from bigSep_univ_of_subsingleton (0 : Fin 1)))
    iexact HGc
  iapply (Entails.of_eq (show (bigSep Finset.univ fun p : Fin 1 => Pipeline.toksInit (Pipeline.pin (pcfgs (F := F)) adm) EP p d)
    = (Pipeline.toksInit (Pipeline.pin (pcfgs (F := F)) adm) EP 0 d : sProp 𝕄) from bigSep_univ_of_subsingleton (0 : Fin 1)))
  iexact HGt

/-! ## The final memory -/

/-- The arguments as launched; the result the transpose of an output the TensorCore kernel may leave. -/
def fq (d : Dev nD) (s' : Phys nD τ sig (Elt F)) : Prop :=
  s'.mem.mem (iLoc d) = m (iLoc d) ∧ s'.mem.mem (eLoc d) = m (eLoc d) ∧ s'.mem.mem (wLoc d) = m (wLoc d)
    ∧ s'.mem.mem (bLoc d) = m (bLoc d) ∧ ∃ G, OutAt (arrs m) d G ∧ s'.mem.mem (oLoc d) = (res G : Buf (Elt F) (oLoc d))

set_option maxRecDepth 16384 in
/-- What the main program ends with holds of the final memory. -/
theorem hfin (d : Dev nD) (s' : Phys nD τ sig (Elt F)) : iprop(FIN m d ∗ SI s') ⊢ (⌜fq m d s'⌝ : sProp 𝕄) := by
  iintro ⟨⟨Hi, He, Hw, Hb, ⟨%G, %hG, Ho⟩⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := eLoc d) (I := Finset.univ) (q := fullShare) (f := m (eLoc d)))) $$ [HSI He]
  · isplitl [HSI] <;> iassumption
  icases H with ⟨%h2, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%h3, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h4, HSI, -⟩
  ihave H := (SI_pointsTo_agree (st := s') (ℓ := oLoc d) (I := Finset.univ) (q := fullShare) (f := (res G : Buf (Elt F) (oLoc d)))) $$ [HSI Ho]
  · isplitl [HSI] <;> iassumption
  icases H with %h5
  ipureintro
  exact ⟨funext fun i => h1 i (Finset.mem_univ i), funext fun i => h2 i (Finset.mem_univ i), funext fun i => h3 i (Finset.mem_univ i),
    funext fun i => h4 i (Finset.mem_univ i), G, hG, funext fun i => h5 i (Finset.mem_univ i)⟩

/-- What every run ends with: the same, on every device, with every semaphore at zero. -/
def QC : PUnit × MemSt nD τ sig (Elt F) → Prop := fun r =>
  (∀ c : Dev nD, r.2.mem (iLoc c) = m (iLoc c) ∧ r.2.mem (eLoc c) = m (eLoc c) ∧ r.2.mem (wLoc c) = m (wLoc c)
    ∧ r.2.mem (bLoc c) = m (bLoc c) ∧ ∃ G, OutAt (arrs m) c G ∧ r.2.mem (oLoc c) = (res G : Buf (Elt F) (oLoc c)))
  ∧ r.2.sem = fun _ => 0

/-- Every run of the program, over any float type, from a launch memory whose words are rows of the table. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => G₀ d) (FIN m) (u₀ (F := F)) (sep_elim_left.trans (hu₀ m)) (hmain m ρ) (fq m) (hfin m) (QC m) (fun _ h hz => ⟨h, hz⟩)

end Cert.Proof.Run

end
-- ==== Proof.Value.lean ====
/-
  What the TensorCore kernel leaves, over the extended reals. At a grid point the body multiplies its block of the
  transposed weights with the transposed embedding rows and adds its block of the bias down the columns. The twenty
  blocks cover the output array, the last one in part; on the rows inside the array the blocks are the arrays' own, so
  the array ends holding one function of the arguments, and its transpose is the reference's result.
-/
module

public import proofs.«01_k».proof.Proof.Main
public import Idealize.ShloMosaic.Lib.Claim
public import Idealize.ShloMosaic.Lib.Pointwise
public import Idealize.ShloMosaic.Lib.Pipeline.ValueKit

@[expose] public section

set_option maxRecDepth 16384

noncomputable section

namespace Cert.Proof.Run

open Cert.KernelIdeal Cert.KernelIdeal.Gen

open Idealize.ShloMosaic
open Idealize.ShloMosaic.TcCoe
open Idealize.ShloMosaic.Pipeline (Dat)

/-- Row `v`, column `r` of the output array: row `v` of the transposed weights against embedding row `r`, plus the
    bias of `v`. -/
def outArr (w : S100000x128.Idx → Elt Ideal .f32) (e : S1024x128.Idx → Elt Ideal .f32)
    (b : S1x100000.Idx → Elt Ideal .f32) : S100000x1024.Idx → Elt Ideal .f32 :=
  fun i => (∑ k : Fin 128, w (ix2 (n0 := 100000) (i 0) k) * e (ix2 (n0 := 1024) (i 1) k))
    + b (ix2 (n1 := 100000) (0 : Fin 1) (i 0))

/-- The block the body stores, at row `p` and column `r`. -/
theorem body_apply (w : S5120x128.Idx → Elt Ideal .f32) (e : S1024x128.Idx → Elt Ideal .f32)
    (b : S1x5120.Idx → Elt Ideal .f32) (p : Fin 5120) (r : Fin 1024) :
    k1_pay2 w (k1_pay1 e) b (ix2 p r)
      = (∑ k : Fin 128, w (ix2 p k) * e (ix2 r k)) + b (ix2 (0 : Fin 1) p) := by
  pointwise [k1_pay2, k1_pay1]

variable (A : Dev nD → Arrays Ideal) (c : Dev nD)

/-- The weight block of grid point `t` is the `t`-th down the rows; -/
theorem index_w : ∀ t : Fin grid1.N, win1_0.index t 0 = t.val ∧ win1_0.index t 1 = 0 := by decide +kernel
/-- the bias block the `t`-th along the columns; -/
theorem index_b : ∀ t : Fin grid1.N, win1_2.index t 0 = 0 ∧ win1_2.index t 1 = t.val := by decide +kernel
/-- the output block the `t`-th down the rows. -/
theorem index_o : ∀ t : Fin grid1.N, win1_3.index t 0 = t.val ∧ win1_3.index t 1 = 0 := by decide +kernel
/-- As many rows of the weight block lie inside its array as of the output block, all columns of each; -/
theorem xsize_w : ∀ t : Fin grid1.N, win1_0.xsize (grid1.coords t) 0 = win1_3.xsize (grid1.coords t) 0
    ∧ win1_0.xsize (grid1.coords t) 1 = 128 := by decide +kernel
/-- as many columns of the bias block; -/
theorem xsize_b : ∀ t : Fin grid1.N, win1_2.xsize (grid1.coords t) 0 = 1
    ∧ win1_2.xsize (grid1.coords t) 1 = win1_3.xsize (grid1.coords t) 0 := by decide +kernel

/-- and no more of the output block than the block has. -/
theorem xsize_le : ∀ t : Fin grid1.N, win1_3.xsize (grid1.coords t) 0 ≤ 5120
    ∧ win1_3.xsize (grid1.coords t) 1 ≤ 1024 := by decide +kernel

/-- A row of the weight block inside the array is the array's row. -/
theorem wFull_apply (t : Fin cfg1.N) (d : S5120x128.Idx → Elt Ideal .f32) (p : Fin 5120)
    (hp : p.val < win1_3.xsize (grid1.coords t) 0) (k : Fin 128) (v : Fin 100000) (hv : v.val = t.val * 5120 + p.val) :
    wFull A c t d (ix2 p k) = (A c).w (ix2 v k) := by
  have hm : win1_0.moved (grid1.coords t) (ix2 p k) = true := (win1_0.moved_iff _ _).mpr fun a => by
    match a with
    | ⟨0, _⟩ => exact lt_of_lt_of_eq hp (xsize_w t).1.symm
    | ⟨1, _⟩ => exact lt_of_lt_of_eq k.isLt (xsize_w t).2.symm
  unfold wFull Pipeline.Window.fill
  rw [dif_pos hm]
  unfold wBlk
  rw [View.read_apply]
  refine congrArg (A c).w (funext fun a => Fin.ext ?_)
  match a with
  | ⟨0, _⟩ => blk_simp [(index_w t).1]; exact hv.symm
  | ⟨1, _⟩ => blk_simp [(index_w t).2]

/-- A column of the bias block inside the array is the array's column. -/
theorem bFull_apply (t : Fin cfg1.N) (d : S1x5120.Idx → Elt Ideal .f32) (p : Fin 5120)
    (hp : p.val < win1_3.xsize (grid1.coords t) 0) (v : Fin 100000) (hv : v.val = t.val * 5120 + p.val) :
    bFull A c t d (ix2 (0 : Fin 1) p) = (A c).b (ix2 (0 : Fin 1) v) := by
  have hm : win1_2.moved (grid1.coords t) (ix2 (0 : Fin 1) p) = true := (win1_2.moved_iff _ _).mpr fun a => by
    match a with
    | ⟨0, _⟩ => exact lt_of_lt_of_eq Nat.one_pos (xsize_b t).1.symm
    | ⟨1, _⟩ => exact lt_of_lt_of_eq hp (xsize_b t).2.symm
  unfold bFull Pipeline.Window.fill
  rw [dif_pos hm]
  unfold bBlk
  rw [View.read_apply]
  refine congrArg (A c).b (funext fun a => Fin.ext ?_)
  match a with
  | ⟨0, _⟩ => blk_simp [(index_b t).1]
  | ⟨1, _⟩ => blk_simp [(index_b t).2]; exact hv.symm

/-- What the body leaves at grid point `t`, on the rows inside the array, whatever the rows past it hold. -/
theorem oFull_apply (t : Fin cfg1.N) (dw : S5120x128.Idx → Elt Ideal .f32) (db : S1x5120.Idx → Elt Ideal .f32)
    (p : Fin 5120) (hp : p.val < win1_3.xsize (grid1.coords t) 0) (r : Fin 1024) (v : Fin 100000)
    (hv : v.val = t.val * 5120 + p.val) :
    oFull A c t dw db (ix2 p r) = outArr (A c).w (A c).e (A c).b (ix2 v r) := by
  unfold oFull
  rw [body_apply, bFull_apply A c t db p hp v hv]
  show _ = (∑ k : Fin 128, (A c).w (ix2 v k) * (A c).e (ix2 r k)) + (A c).b (ix2 (0 : Fin 1) v)
  refine congrArg (· + _) (Finset.sum_congr rfl fun k _ => ?_)
  rw [wFull_apply A c t dw p hp k v hv]

/-- Where an element of the output block lies in the array. -/
theorem emb_o (t : Fin grid1.N) (y : (win1_3.xblock (grid1.coords t)).Idx) (v : Fin 100000) (r : Fin 1024)
    (hv : v.val = t.val * 5120 + (y 0).val) (hr : r.val = (y 1).val) : (win1_3.blk t).view.emb y = ix2 v r := by
  refine funext fun a => Fin.ext ?_
  match a with
  | ⟨0, _⟩ => blk_simp [(index_o t).1]; exact hv.symm
  | ⟨1, _⟩ => blk_simp [(index_o t).2]; exact hr.symm

/-- The row of an element of the output block inside the array is a row of the array. -/
theorem row_lt (t : Fin grid1.N) (y : (win1_3.xblock (grid1.coords t)).Idx) : t.val * 5120 + (y 0).val < 100000 :=
  lt_of_lt_of_le (Nat.add_lt_add_left (y 0).isLt _) ((by decide +kernel : ∀ t : Fin grid1.N,
    t.val * 5120 + win1_3.xsize (grid1.coords t) 0 ≤ 100000) t)

/-- The output array after the last write-back: row `v`, column `r` holds the product and the bias. -/
theorem out_eq {G : S100000x1024.Idx → Elt Ideal .f32} (h : OutAt A c G) : G = outArr (A c).w (A c).e (A c).b := by
  obtain ⟨X, hX, hG⟩ := Pipeline.RDat.ArrAt.exists_exact h
  obtain ⟨after, ha⟩ : ∃ after : (w' : Fin cfg1.W) → Fin cfg1.N → (cfg1.win w').block.Idx → Elt Ideal (cfg1.win w').elt,
      after (3 : Fin 4) = X := ⟨Function.update (fun _ _ _ => Classical.arbitrary _) (3 : Fin 4) X, Function.update_self ..⟩
  refine (hG after fun u _ _ => congrFun ha u).trans ?_
  refine Dat.arrAt_eq_of_covers (cfg := cfg1) _ (3 : Fin 4) (outArr (A c).w (A c).e (A c).b) (by decide +kernel) fun t hf y => ?_
  obtain ⟨dw, db, e⟩ := (dat A c).toRRel_leaves rfl (hX t t.isLt hf)
  blk_simp
  refine (congrFun ((congrFun ha t).trans e) _).trans ?_
  have hp : (y 0).val < win1_3.xsize (grid1.coords t) 0 := (y 0).isLt
  have hr : (y 1).val < 1024 := lt_of_lt_of_le (y 1).isLt (xsize_le t).2
  refine Eq.trans ?_ ((oFull_apply A c t dw db ⟨(y 0).val, lt_of_lt_of_le hp (xsize_le t).1⟩ hp ⟨(y 1).val, hr⟩
    ⟨t.val * 5120 + (y 0).val, row_lt t y⟩ rfl).trans (congrArg _ (emb_o t y _ _ rfl rfl).symm))
  refine congrArg (oFull A c t dw db) (funext fun a => ?_)
  match a with
  | ⟨0, _⟩ => rfl
  | ⟨1, _⟩ => rfl

end Cert.Proof.Run
-- ==== Proof.Ref.lean ====
/-
  The reference: the array its program leaves, and what that array holds at an index when every word of the first
  argument is below 100000. Looking a word up in the table of 100000 rows goes through three guards: a negative word
  counts from the end, a word outside the table yields not-a-number, and the gather clamps. None of them acts on a word
  below 100000, so the row read is the row the word names.
-/
module

public import proofs.«01_k».proof.Proof.Setup
public import proofs.«01_k».proof.Proof.Gen.ReferenceIdeal
public import Idealize.ShloMosaic.Lib.Claim
public import Idealize.ShloMosaic.Lib.Pointwise
public import Idealize.ShloMosaic.Lib.Quiescent

@[expose] public section

noncomputable section

namespace Cert.Proof.Ref

open Idealize.ShloMosaic Idealize.SL.Sem
open Cert.ReferenceIdeal Cert.ReferenceIdeal.Gen
open Cert.Proof.Run (rowOf lookup)

/-! ## The array the program leaves -/

section Terms

variable (idx : S1024.Idx → BitVec 32) (E : S100000x128.Idx → Elt Ideal .f32)
  (W : S128x100000.Idx → Elt Ideal .f32) (b : S100000.Idx → Elt Ideal .f32)

/-- The words, as a column; a negative one has 100000 added. -/
def rowWords : IVec S1024x1 32 :=
  broadcastInDim S1024x1 ![0] Facts₀.bcast_S1024_S1024x1_0
    (select (cmpi .slt idx (broadcastInDim S1024 ![] Facts₀.bcast_S_S1024 (constantI S_ 32 0#32)))
      (addi idx (broadcastInDim S1024 ![] Facts₀.bcast_S_S1024 (constantI S_ 32 100000#32))) idx)

/-- Which words name a row of the table. -/
def inTable : IVec S1024 1 :=
  Host.reduce IntOp.andi (andi
    (cmpi .sge (rowWords idx) (broadcastInDim S1024x1 ![] Facts₀.bcast_S_S1024x1 (constantI S_ 32 0#32)))
    (cmpi .sle (rowWords idx) (broadcastInDim S1024x1 ![0, 1] Facts₀.bcast_S1x1_S1024x1_0_1
      (broadcastInDim S1x1 ![1] Facts₀.bcast_S1_S1x1_1 (constantI S1 32 99999#32)))))
    (constantI S_ 1 1#1) Facts₀.reducesTo_S1024x1_S1024_d1 Facts₀.h_S_

/-- The rows read, not-a-number where the word names none. -/
def taken : S1024x128.Idx → Elt Ideal .f32 :=
  select (broadcastInDim S1024x128 ![0] Facts₀.bcast_S1024_S1024x128_0 (inTable idx))
    (Host.gather gather_S100000x128_S1024x1_S1024x128_1_0_n_n_0_1_1128 E (rowWords idx))
    (broadcastInDim S1024x128 ![] Facts₀.bcast_S_S1024x128 (constant (F := Ideal) S_ .f32 0x7FC00000#32))

/-- The reference's result: the rows read, times the weights, plus the bias along every row. -/
def refOut : S1024x100000.Idx → Elt Ideal .f32 :=
  addf (Host.dotGeneral (F := Ideal) (φ₁ := .f32) (φ₂ := .f32)
      dot_S1024x128_S128x100000_S1024x100000_1_0_0_1_n_n none (taken idx E) W)
    (broadcastInDim S1024x100000 ![0, 1] Facts₀.bcast_S1x100000_S1024x100000_0_1
      (broadcastInDim S1x100000 ![1] Facts₀.bcast_S100000_S1x100000_1 b))

end Terms

/-- The program ends with the result array holding `refOut` of the arguments, and the arguments unchanged. -/
theorem ref_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v4)
          = refOut (m ((c.tc : Thread nD τ).loc main_arg0)) (m ((c.tc : Thread nD τ).loc main_arg1))
            (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) := by
  hlo_run
  rfl

/-! ## The array at an index -/

section Value

variable (idx : S1024.Idx → BitVec 32) (E : S100000x128.Idx → Elt Ideal .f32)
  (W : S128x100000.Idx → Elt Ideal .f32) (b : S100000.Idx → Elt Ideal .f32)

/-- A word below 100000 is not negative: read with its sign it is its value. -/
theorem toInt_of_lt {v : BitVec 32} (h : v.toNat < 100000) : v.toInt = (v.toNat : Int) := by
  rw [BitVec.toInt_eq_toNat_cond, if_pos (by omega)]

/-- So it fails the test for a negative word, -/
theorem not_neg {v : BitVec 32} (h : v.toNat < 100000) : IntOp.cmpi .slt v 0#32 = 0#1 := by
  have e := toInt_of_lt h
  simp only [IntOp.cmpi, BitVec.slt_eq_decide, BitVec.toInt_zero]
  rw [decide_eq_false (by omega)]; rfl

/-- passes the one for a word of at least 0, -/
theorem sge_zero {v : BitVec 32} (h : v.toNat < 100000) : IntOp.cmpi .sge v 0#32 = 1#1 := by
  have e := toInt_of_lt h
  simp only [IntOp.cmpi, BitVec.sle_eq_decide, BitVec.toInt_zero]
  rw [decide_eq_true (by omega)]; rfl

/-- and the one for a word of at most 99999. -/
theorem sle_last {v : BitVec 32} (h : v.toNat < 100000) : IntOp.cmpi .sle v 99999#32 = 1#1 := by
  have e := toInt_of_lt h
  have e' : (99999#32 : BitVec 32).toInt = 99999 := by decide
  simp only [IntOp.cmpi, BitVec.sle_eq_decide, e']
  rw [decide_eq_true (by omega)]; rfl

/-- A word below 100000 goes into the column as it is. -/
theorem rowWords_apply (r : Fin 1024) (z : Fin 1) (h : (idx (ix1 r)).toNat < 100000) :
    rowWords idx (ix2 r z) = idx (ix1 r) := by
  pointwise [rowWords]
  rw [not_neg h]; rfl

/-- A word below 100000 names a row. -/
theorem inTable_apply (r : Fin 1024) (h : (idx (ix1 r)).toNat < 100000) : inTable idx (ix1 r) = 1#1 := by
  pointwise [inTable]
  simp only [rowWords_apply idx r _ h, sge_zero h, sle_last h]
  decide

/-- Where the gather reads: in the row its word's signed value clamps to, at the result's own column. -/
theorem gather_row {w : Nat} (x : IVec S1024x1 w) (r : Fin 1024) (k : Fin 128) :
    Host.gather gather_S100000x128_S1024x1_S1024x128_1_0_n_n_0_1_1128 E x (ix2 r k)
      = E (ix2 ⟨min (x (ix2 r 0)).toInt.toNat 99999, by omega⟩ k) := by
  refine congrArg E (funext fun a => Fin.ext ?_)
  match a with
  | ⟨0, _⟩ =>
    show GatherDims.start _ _ x 0 + GatherDims.batchCoord _ _ 0 + GatherDims.offCoord _ _ 0 = _
    rw [GatherDims.batchCoord_eq_zero _ _ _ (by decide), GatherDims.offCoord_eq_zero _ _ _ (by decide),
      GatherDims.start, dif_pos (by decide)]
    refine congrArg (fun j => min (x j).toInt.toNat 99999) (funext fun c => Fin.ext ?_)
    match c with
    | ⟨0, _⟩ => rfl
    | ⟨1, _⟩ => rfl
  | ⟨1, _⟩ =>
    show GatherDims.start _ _ x 1 + GatherDims.batchCoord _ _ 1 + GatherDims.offCoord _ _ 1 = _
    rw [GatherDims.batchCoord_eq_zero _ _ _ (by decide), GatherDims.start, dif_neg (by decide),
      GatherDims.offCoord, dif_pos (by decide)]
    exact Nat.zero_add _

/-- The row read for a word below 100000 is the row it names. -/
theorem taken_apply (r : Fin 1024) (k : Fin 128) (h : (idx (ix1 r)).toNat < 100000) :
    taken idx E (ix2 r k) = lookup idx E (ix2 r k) := by
  pointwise [taken]
  rw [inTable_apply idx r h, gather_row]
  show E _ = E _
  refine congrArg E (congrArg (ix2 · k) (Fin.ext ?_))
  show min (rowWords idx (ix2 r 0)).toInt.toNat 99999 = (rowOf (idx (ix1 r))).val
  rw [rowWords_apply idx r 0 h, Run.rowOf_val h, toInt_of_lt h, Int.toNat_natCast]
  omega

/-- The reference's result at row `r` and column `v`: row `r`'s table row times the weights' column, plus the bias. -/
theorem refOut_apply (r : Fin 1024) (v : Fin 100000) (h : (idx (ix1 r)).toNat < 100000) :
    refOut idx E W b (ix2 r v) = (∑ k : Fin 128, lookup idx E (ix2 r k) * W (ix2 k v)) + b (ix1 v) := by
  pointwise [refOut]
  simp only [taken_apply idx E r _ h]

end Value

end Cert.Proof.Ref
-- ==== Proof.Claims.lean ====
/-
  The claims. The precondition says that every word of the first argument is between 0 and 99999, which is what the
  kernel's run asks; each claim is that run, or the reference's, read where the claim looks.
-/
module

public import proofs.«01_k».proof.Defs
public import proofs.«01_k».proof.Proof.Value
public import proofs.«01_k».proof.Proof.Ref
public import proofs.«01_k».proof.Proof.Gen.Kernel
public import proofs.«01_k».proof.Proof.Gen.Pre_in_range

@[expose] public section

set_option maxRecDepth 16384

noncomputable section

namespace Cert.Proof

open Idealize.ShloMosaic Idealize.SL.Sem
open Cert.Proof.Run (PreOK)

/-! ## The precondition -/

/-- A conjunction of bits that comes out 1 has every bit 1. -/
theorem all_one {ι : Type} [DecidableEq ι] (f : ι → BitVec 1) (s : Finset ι) :
    s.fold IntOp.andi 1#1 f = 1#1 → ∀ x ∈ s, f x = 1#1 := by
  have two : ∀ p q : BitVec 1, IntOp.andi p q = 1#1 → p = 1#1 ∧ q = 1#1 := by decide
  induction s using Finset.induction_on with
  | empty => intro _ x hx; exact absurd hx (Finset.notMem_empty x)
  | insert a s ha ih =>
    intro h x hx
    rw [Finset.fold_insert ha] at h
    obtain ⟨h1, h2⟩ := two _ _ h
    rcases Finset.mem_insert.mp hx with rfl | hx
    · exact h1
    · exact ih h2 x hx

/-- A word that is at least 0 and less than 100000, both with its sign, has a value below 100000. -/
theorem toNat_of_range (v : BitVec 32) (h : IntOp.andi (IntOp.cmpi .sge v 0#32) (IntOp.cmpi .slt v 100000#32) = 1#1) :
    v.toNat < 100000 := by
  have two : ∀ p q : Bool, IntOp.andi (BitVec.ofBool p) (BitVec.ofBool q) = 1#1 → p = true ∧ q = true := by decide
  obtain ⟨h1, h2⟩ := two _ _ h
  have e : (100000#32 : BitVec 32).toInt = 100000 := by decide
  replace h1 : (0#32).sle v = true := h1
  replace h2 : v.slt 100000#32 = true := h2
  rw [BitVec.sle_eq_decide, decide_eq_true_eq, BitVec.toInt_zero] at h1
  rw [BitVec.slt_eq_decide, decide_eq_true_eq, e] at h2
  rw [BitVec.toInt_eq_toNat_cond] at h1 h2
  have := v.isLt
  split at h1 <;> omega

/-- The precondition, of any four arrays, bounds every word of the first. -/
theorem words_lt {F : FTy → Type} [FloatOps F] (idx : Cert.Pre_in_range.S1024.Idx → BitVec 32) (E W b)
    (h : Cert.Pre_in_range.fn (F := F) idx E W b = fun _ => 1#1) (j : Cert.Pre_in_range.S1024.Idx) :
    (idx j).toNat < 100000 := by
  have h0 := congrFun h (fun a => a.elim0)
  have h1 : Finset.univ.fold IntOp.andi 1#1 (fun r : Fin 1024 =>
      IntOp.andi (IntOp.cmpi .sge (idx (ix1 r)) 0#32) (IntOp.cmpi .slt (idx (ix1 r)) 100000#32)) = 1#1 := by
    refine Eq.trans (Eq.symm ?_) h0
    pointwise [Cert.Pre_in_range.fn]
  have := toNat_of_range _ (all_one _ _ h1 (j 0) (Finset.mem_univ _))
  rwa [show (ix1 (j 0) : Cert.Pre_in_range.S1024.Idx) = j from (eq_ix1 j).symm] at this

/-- The kernel's precondition is what its run asks of the launch memory, on the machine's floats -/
theorem ok_bits {m : (ℓ : Loc Cert.Kernel.nD Cert.Kernel.τ Cert.Kernel.sig) → Buf (Elt Bits) ℓ} (h : Cert.Pre_Kernel m) :
    PreOK (F := Bits) m := fun d j => words_lt _ _ _ _ (h d) j

/-- and on the extended reals. -/
theorem ok_ideal {m : (ℓ : Loc Cert.KernelIdeal.nD Cert.KernelIdeal.τ Cert.KernelIdeal.sig) → Buf (Elt Ideal) ℓ}
    (h : Cert.Pre_KernelIdeal m) : PreOK (F := Ideal) m := fun d j => words_lt _ _ _ _ (h d) j

/-! ## The frames -/

section Same

variable {F : FTy → Type} [FloatOps F]

/-- The program for the machine's floats and the one for the extended reals run the same kernels -/
theorem defs₀_same : Cert.Kernel.defs₀ (F := F) = Cert.KernelIdeal.defs₀ (F := F) := by
  funext p ℓ a
  match p, ℓ with
  | .scVector c s, 0 => rfl
  | .scVector c s, 1 => rfl
  | .tc, 0 => rfl
  | .tc, 1 => rfl
  | .scScalar _, 0 => rfl
  | .scScalar _, 1 => rfl

/-- in the same pipelines and launches. -/
theorem defs_same : Cert.Kernel.defs (F := F) = Cert.KernelIdeal.defs (F := F) :=
  congrArg (fun d => (Cert.KernelIdeal.sc (F := F)).defs (Pipeline.defs (Cert.KernelIdeal.pcfgs (F := F)) d)) defs₀_same

end Same

/-- The kernel on the machine's floats: it ends, its arguments unchanged and its counters at zero. -/
theorem frame_bits : Cert.quiescent_Kernel := fun m g h =>
  (θ_run (Cert.Kernel.defs (F := Bits)) _ _).mono
    (fun _ (k : Run.QC (F := Bits) m _) => ⟨fun c => ⟨(k.1 c).1, (k.1 c).2.1, (k.1 c).2.2.1, (k.1 c).2.2.2.1⟩, k.2⟩)
    (Eq.mpr (congrArg (fun D => θ_run D (Cert.KernelIdeal.threads (F := Bits)) ⟨m, fun _ => 0, g⟩ (Run.QC (F := Bits) m))
      (defs_same (F := Bits))) (Run.run_main (F := Bits) m g (ok_bits h)))

/-- The kernel on the extended reals, likewise. -/
theorem frame_ideal : Cert.quiescent_KernelIdeal := fun m g h =>
  (θ_run (Cert.KernelIdeal.defs (F := Ideal)) _ _).mono
    (fun _ k => ⟨fun c => ⟨(k.1 c).1, (k.1 c).2.1, (k.1 c).2.2.1, (k.1 c).2.2.2.1⟩, k.2⟩)
    (Run.run_main (F := Ideal) m g (ok_ideal h))

/-- The reference, likewise: it has no counters. -/
theorem frame_ref : Cert.quiescent_ReferenceIdeal := fun m g _ =>
  (θ_run (Cert.ReferenceIdeal.defs (F := Ideal)) _ _).mono
    (fun r k => ⟨fun c => (k c).2, sem_eq_zero_of_no_sems (by decide) r.2⟩)
    (Ref.ref_run m g)

/-- The reference from the arguments of the precondition, in particular. -/
theorem frame_ref_in_range : Cert.quiescent_ReferenceIdeal_pre_in_range := fun m g _ => frame_ref m g trivial

/-! ## The value -/

/-- The transpose of what the TensorCore kernel leaves is the reference's result. -/
theorem value (idx : Cert.KernelIdeal.S1024.Idx → BitVec 32) (E : Cert.KernelIdeal.S100000x128.Idx → Elt Ideal .f32)
    (W : Cert.KernelIdeal.S128x100000.Idx → Elt Ideal .f32) (b : Cert.KernelIdeal.S100000.Idx → Elt Ideal .f32)
    (hidx : ∀ j, (idx j).toNat < 100000) :
    Run.res (Run.outArr (transpose Cert.KernelIdeal.S100000x128 [1, 0] W Cert.KernelIdeal.Facts₀.transposes_S128x100000_S100000x128_1_0)
      (Run.lookup idx E) (fun i => shapeCast Cert.KernelIdeal.S1x100000 b Cert.KernelIdeal.Facts₀.shapeCasts_S100000_S1x100000 i))
      = Ref.refOut idx E W b := by
  funext j
  obtain ⟨r, v, rfl⟩ : ∃ (r : Fin 1024) (v : Fin 100000), j = ix2 r v := ⟨_, _, eq_ix2 j⟩
  rw [Ref.refOut_apply idx E W b r v (hidx _)]
  pointwise [Run.res, Run.outArr]
  exact congrArg (· + _) (Finset.sum_congr rfl fun k _ => mul_comm _ _)

/-- The kernel and the reference leave the same result, from arguments the precondition admits. -/
theorem same_result : Cert.algebraic_KernelIdeal_ReferenceIdeal := fun m g m' g' h hm =>
  ⟨fun c => Ref.refOut (m (Run.iLoc c)) (m (Run.eLoc c)) (m (Run.wLoc c)) (m (Run.bLoc c)),
    (θ_run (Cert.KernelIdeal.defs (F := Ideal)) _ _).mono
      (fun r (k : Run.QC (F := Ideal) m r) c => by
        obtain ⟨h0, h1, h2, h3, G, hG, ho⟩ := k.1 c
        refine ⟨ho.trans ?_, h0, h1, h2, h3⟩
        rw [Run.out_eq (Run.arrs m) c hG]
        exact value _ _ _ _ (ok_ideal h c))
      (Run.run_main (F := Ideal) m g (ok_ideal h)),
    (θ_run (Cert.ReferenceIdeal.defs (F := Ideal)) _ _).mono
      (fun r k c => by
        obtain ⟨h0, h1, h2, h3⟩ := hm c
        obtain ⟨ho, k⟩ := k c
        refine ⟨ho.trans ?_, k⟩
        rw [h0, h1, h2, h3])
      (Ref.ref_run m' g')⟩

end Cert.Proof
-- ==== Proof.lean ====
/-
  The certificate: every claim of Defs.lean, put together from Proof/Claims.lean.
-/
module

public import proofs.«01_k».proof.Proof.Claims

@[expose] public section

namespace Cert.Proof

/-- Everything the certificate claims holds. -/
theorem claim : Cert.Claim :=
  ⟨Cert.Kernel.Gen.facts, Cert.KernelIdeal.Gen.facts, Cert.ReferenceIdeal.Gen.facts, Cert.Pre_in_range.Gen.facts,
    frame_bits, frame_ideal, frame_ref, frame_ref_in_range, trivial, same_result⟩

end Cert.Proof
